-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.blockN ⟨4, ![2, 512, 8, 64]⟩ ⟨4, ![2, 1024, 8, 64]⟩ (Layout.meshBlock [2, 2] ![[], [1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 512, 8, 64]⟩ ⟨4, ![2, 1024, 8, 64]⟩ (Layout.meshBlock [2, 2] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 512, 8, 64]⟩ ⟨4, ![2, 1024, 8, 64]⟩ (Layout.meshBlock [2, 2] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![16, 64, 512]⟩ ⟨3, ![16, 64, 1024]⟩ (Layout.meshBlock [2, 2] ![[], [], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x8x64 : Shape := ⟨4, ![2, 512, 8, 64]⟩
abbrev S_ : Shape := ⟨0, ![]⟩

class Facts : Prop where
  bitsLt_bf16_f32 : FTy.bits .bf16 < FTy.bits .f32
  bcast_S_S2x512x8x64 : S_.BroadcastsInDim S2x512x8x64 (![] : Fin 0 → Fin S2x512x8x64.rank)
  reducesTo_S2x512x8x64_S_d0_1_2_3 : S2x512x8x64.ReducesTo [0, 1, 2, 3] S_
  h_S_ : 0 < S_.numel

variable [Facts]

def fn {F : FTy → Type} [FloatOps F] (main_arg0 : FVec F S2x512x8x64 .bf16) (main_arg1 : FVec F S2x512x8x64 .bf16) (main_arg2 : FVec F S2x512x8x64 .bf16) : IVec S_ 1 :=
  let main_v0 : FVec F S2x512x8x64 .f32 := (extf .f32 · bitsLt_bf16_f32) main_arg0
  let main_v1 : FVec F S2x512x8x64 .f32 := (extf .f32 · bitsLt_bf16_f32) main_arg1
  let main_v2 : FVec F S2x512x8x64 .f32 := Host.absf main_v0
  let main_cst : FVec F S_ .f32 := constant S_ .f32 0x7F800000#32
  let main_v3 : FVec F S2x512x8x64 .f32 := broadcastInDim S2x512x8x64 ![] bcast_S_S2x512x8x64 main_cst
  let main_v4 : IVec S2x512x8x64 1 := cmpf .olt main_v2 main_v3
  let main_c : IVec S_ 1 := constantI S_ 1 1#1
  let main_v5 : IVec S_ 1 := (fun x v => Host.reduce IntOp.andi x v reducesTo_S2x512x8x64_S_d0_1_2_3 h_S_) main_v4 main_c
  let main_v6 : FVec F S2x512x8x64 .f32 := Host.absf main_v1
  let main_cst_0 : FVec F S_ .f32 := constant S_ .f32 0x7F800000#32
  let main_v7 : FVec F S2x512x8x64 .f32 := broadcastInDim S2x512x8x64 ![] bcast_S_S2x512x8x64 main_cst_0
  let main_v8 : IVec S2x512x8x64 1 := cmpf .olt main_v6 main_v7
  let main_c_1 : IVec S_ 1 := constantI S_ 1 1#1
  let main_v9 : IVec S_ 1 := (fun x v => Host.reduce IntOp.andi x v reducesTo_S2x512x8x64_S_d0_1_2_3 h_S_) main_v8 main_c_1
  let main_v10 : IVec S_ 1 := andi main_v5 main_v9
  main_v10
-- ==== Pre_finite_ReferenceIdeal.lean ====
abbrev S2x1024x8x64 : Shape := ⟨4, ![2, 1024, 8, 64]⟩
abbrev S_ : Shape := ⟨0, ![]⟩

class Facts : Prop where
  bitsLt_bf16_f32 : FTy.bits .bf16 < FTy.bits .f32
  bcast_S_S2x1024x8x64 : S_.BroadcastsInDim S2x1024x8x64 (![] : Fin 0 → Fin S2x1024x8x64.rank)
  reducesTo_S2x1024x8x64_S_d0_1_2_3 : S2x1024x8x64.ReducesTo [0, 1, 2, 3] S_
  h_S_ : 0 < S_.numel

variable [Facts]

def fn {F : FTy → Type} [FloatOps F] (main_arg0 : FVec F S2x1024x8x64 .bf16) (main_arg1 : FVec F S2x1024x8x64 .bf16) (main_arg2 : FVec F S2x1024x8x64 .bf16) : IVec S_ 1 :=
  let main_v0 : FVec F S2x1024x8x64 .f32 := (extf .f32 · bitsLt_bf16_f32) main_arg0
  let main_v1 : FVec F S2x1024x8x64 .f32 := (extf .f32 · bitsLt_bf16_f32) main_arg1
  let main_v2 : FVec F S2x1024x8x64 .f32 := Host.absf main_v0
  let main_cst : FVec F S_ .f32 := constant S_ .f32 0x7F800000#32
  let main_v3 : FVec F S2x1024x8x64 .f32 := broadcastInDim S2x1024x8x64 ![] bcast_S_S2x1024x8x64 main_cst
  let main_v4 : IVec S2x1024x8x64 1 := cmpf .olt main_v2 main_v3
  let main_c : IVec S_ 1 := constantI S_ 1 1#1
  let main_v5 : IVec S_ 1 := (fun x v => Host.reduce IntOp.andi x v reducesTo_S2x1024x8x64_S_d0_1_2_3 h_S_) main_v4 main_c
  let main_v6 : FVec F S2x1024x8x64 .f32 := Host.absf main_v1
  let main_cst_0 : FVec F S_ .f32 := constant S_ .f32 0x7F800000#32
  let main_v7 : FVec F S2x1024x8x64 .f32 := broadcastInDim S2x1024x8x64 ![] bcast_S_S2x1024x8x64 main_cst_0
  let main_v8 : IVec S2x1024x8x64 1 := cmpf .olt main_v6 main_v7
  let main_c_1 : IVec S_ 1 := constantI S_ 1 1#1
  let main_v9 : IVec S_ 1 := (fun x v => Host.reduce IntOp.andi x v reducesTo_S2x1024x8x64_S_d0_1_2_3 h_S_) main_v8 main_c_1
  let main_v10 : IVec S_ 1 := andi main_v5 main_v9
  main_v10
-- ==== Kernel.lean ====
abbrev S2x512x8x64 : Shape := ⟨4, ![2, 512, 8, 64]⟩
abbrev S16x64x512 : Shape := ⟨3, ![16, 64, 512]⟩
abbrev S8x64x512 : Shape := ⟨3, ![8, 64, 512]⟩
abbrev S8x512 : Shape := ⟨2, ![8, 512]⟩
abbrev S16 : Shape := ⟨1, ![16]⟩
abbrev S8 : Shape := ⟨1, ![8]⟩
abbrev S_ : Shape := ⟨0, ![]⟩
abbrev S1x512x8x64 : Shape := ⟨4, ![1, 512, 8, 64]⟩
abbrev S512x8x64 : Shape := ⟨3, ![512, 8, 64]⟩
abbrev S1 : Shape := ⟨1, ![1]⟩
abbrev S1x64x512 : Shape := ⟨3, ![1, 64, 512]⟩
abbrev S64x512 : Shape := ⟨2, ![64, 512]⟩
abbrev S512 : Shape := ⟨1, ![512]⟩
abbrev S512x512 : Shape := ⟨2, ![512, 512]⟩
abbrev S1x512 : Shape := ⟨2, ![1, 512]⟩

abbrev nBuf : Space → Nat
  | .hbm => 4
  | .vmem => 11
  | .smem => 0
  | _ => 0

abbrev bufTy : (tb : Table) → Fin (tcTables nBuf tb) → BufTy
  | .hbm, ⟨0, _⟩ => ⟨S2x512x8x64, .bf16⟩
  | .hbm, ⟨1, _⟩ => ⟨S2x512x8x64, .bf16⟩
  | .hbm, ⟨2, _⟩ => ⟨S2x512x8x64, .bf16⟩
  | .hbm, ⟨3, _⟩ => ⟨S16x64x512, .bf16⟩
  | .local _ .vmem, ⟨0, _⟩ => ⟨S2x512x8x64, .bf16⟩
  | .local _ .vmem, ⟨1, _⟩ => ⟨S2x512x8x64, .bf16⟩
  | .local _ .vmem, ⟨2, _⟩ => ⟨S2x512x8x64, .bf16⟩
  | .local _ .vmem, ⟨3, _⟩ => ⟨S16x64x512, .bf16⟩
  | .local _ .vmem, ⟨4, _⟩ => ⟨S8x64x512, .bf16⟩
  | .local _ .vmem, ⟨5, _⟩ => ⟨S8x64x512, .bf16⟩
  | .local _ .vmem, ⟨6, _⟩ => ⟨S8x64x512, .bf16⟩
  | .local _ .vmem, ⟨7, _⟩ => ⟨S8x64x512, .bf16⟩
  | .local _ .vmem, ⟨8, _⟩ => ⟨S8x64x512, .bf16⟩
  | .local _ .vmem, ⟨9, _⟩ => ⟨S8x64x512, .f32⟩
  | .local _ .vmem, ⟨10, _⟩ => ⟨S8x512, .f32⟩
  | _, _ => ⟨S2x512x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 2 → Bool
  | ⟨0, _⟩ => true
  | ⟨1, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 2 52 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 1

abbrev nD : Nat := 4
abbrev τ : Topo := Topo.v7x

variable {F : FTy → Type} [FloatOps F]

abbrev grid0 : Pipeline.Grid := .none

def k0_off1 (d0 : Dev nD) : Fin 4 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : Index := Scalar.indexCast v2
  let c0 : Index := 0#32
  let c0_4 : Index := 0#32
  let c0_5 : Index := 0#32
  ![v9.toNat, 0, 0, 0]
def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_24 : BitVec 32 := 2#32
  let v37 : BitVec 32 := Scalar.muli v2 c2_i32_24
  let v38 : BitVec 32 := Scalar.addi c0_i32 v37
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_25 : BitVec 32 := 1#32
  let v39 : BitVec 32 := Scalar.muli v6 c1_i32_25
  let v40 : BitVec 32 := Scalar.addi v38 v39
  v40.toNat
def k0_dev2 (d0 : Dev nD) : Nat :=
  let c0_i32_32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_31 : BitVec 32 := 2#32
  let v41 : BitVec 32 := Scalar.muli v2 c2_i32_31
  let v42 : BitVec 32 := Scalar.addi c0_i32_32 v41
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_33 : BitVec 32 := 1#32
  let v43 : BitVec 32 := Scalar.muli v6 c1_i32_33
  let v44 : BitVec 32 := Scalar.addi v42 v43
  v44.toNat
def k0_dev3 (d0 : Dev nD) : Nat :=
  let c0_i32_43 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_42 : BitVec 32 := 2#32
  let v53 : BitVec 32 := Scalar.muli v2 c2_i32_42
  let v54 : BitVec 32 := Scalar.addi c0_i32_43 v53
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_44 : BitVec 32 := 1#32
  let v55 : BitVec 32 := Scalar.muli v6 c1_i32_44
  let v56 : BitVec 32 := Scalar.addi v54 v55
  v56.toNat
def k0_dev4 (d0 : Dev nD) : Nat :=
  let c0_i32_54 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_53 : BitVec 32 := 2#32
  let v65 : BitVec 32 := Scalar.muli v2 c2_i32_53
  let v66 : BitVec 32 := Scalar.addi c0_i32_54 v65
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_55 : BitVec 32 := 1#32
  let v67 : BitVec 32 := Scalar.muli v6 c1_i32_55
  let v68 : BitVec 32 := Scalar.addi v66 v67
  v68.toNat
def k0_dev5 (d0 : Dev nD) : Nat :=
  let c0_i32_64 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_63 : BitVec 32 := 2#32
  let v77 : BitVec 32 := Scalar.muli v2 c2_i32_63
  let v78 : BitVec 32 := Scalar.addi c0_i32_64 v77
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_65 : BitVec 32 := 1#32
  let v79 : BitVec 32 := Scalar.muli v6 c1_i32_65
  let v80 : BitVec 32 := Scalar.addi v78 v79
  v80.toNat
def k0_dev6 (d0 : Dev nD) : Nat :=
  let c0_i32_74 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_73 : BitVec 32 := 2#32
  let v89 : BitVec 32 := Scalar.muli v2 c2_i32_73
  let v90 : BitVec 32 := Scalar.addi c0_i32_74 v89
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_75 : BitVec 32 := 1#32
  let v91 : BitVec 32 := Scalar.muli v6 c1_i32_75
  let v92 : BitVec 32 := Scalar.addi v90 v91
  v92.toNat
def k0_dev7 (d0 : Dev nD) : Nat :=
  let c0_i32_84 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_83 : BitVec 32 := 2#32
  let v101 : BitVec 32 := Scalar.muli v2 c2_i32_83
  let v102 : BitVec 32 := Scalar.addi c0_i32_84 v101
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_85 : BitVec 32 := 1#32
  let v103 : BitVec 32 := Scalar.muli v6 c1_i32_85
  let v104 : BitVec 32 := Scalar.addi v102 v103
  v104.toNat
def k0_dev8 (d0 : Dev nD) : Nat :=
  let c0_i32_94 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_93 : BitVec 32 := 2#32
  let v113 : BitVec 32 := Scalar.muli v2 c2_i32_93
  let v114 : BitVec 32 := Scalar.addi c0_i32_94 v113
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_95 : BitVec 32 := 1#32
  let v115 : BitVec 32 := Scalar.muli v6 c1_i32_95
  let v116 : BitVec 32 := Scalar.addi v114 v115
  v116.toNat
def k0_dev9 (d0 : Dev nD) : Nat :=
  let c0_i32_104 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_103 : BitVec 32 := 2#32
  let v125 : BitVec 32 := Scalar.muli v2 c2_i32_103
  let v126 : BitVec 32 := Scalar.addi c0_i32_104 v125
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_105 : BitVec 32 := 1#32
  let v127 : BitVec 32 := Scalar.muli v6 c1_i32_105
  let v128 : BitVec 32 := Scalar.addi v126 v127
  v128.toNat
def k0_dev10 (d0 : Dev nD) : Nat :=
  let c0_i32_115 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_114 : BitVec 32 := 2#32
  let v137 : BitVec 32 := Scalar.muli v2 c2_i32_114
  let v138 : BitVec 32 := Scalar.addi c0_i32_115 v137
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_116 : BitVec 32 := 1#32
  let v139 : BitVec 32 := Scalar.muli v6 c1_i32_116
  let v140 : BitVec 32 := Scalar.addi v138 v139
  v140.toNat
def k0_dev11 (d0 : Dev nD) : Nat :=
  let c0_i32_125 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_124 : BitVec 32 := 2#32
  let v149 : BitVec 32 := Scalar.muli v2 c2_i32_124
  let v150 : BitVec 32 := Scalar.addi c0_i32_125 v149
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_126 : BitVec 32 := 1#32
  let v151 : BitVec 32 := Scalar.muli v6 c1_i32_126
  let v152 : BitVec 32 := Scalar.addi v150 v151
  v152.toNat
def k0_dev12 (d0 : Dev nD) : Nat :=
  let c0_i32_135 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_134 : BitVec 32 := 2#32
  let v161 : BitVec 32 := Scalar.muli v2 c2_i32_134
  let v162 : BitVec 32 := Scalar.addi c0_i32_135 v161
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_136 : BitVec 32 := 1#32
  let v163 : BitVec 32 := Scalar.muli v6 c1_i32_136
  let v164 : BitVec 32 := Scalar.addi v162 v163
  v164.toNat
def k0_dev13 (d0 : Dev nD) : Nat :=
  let c0_i32_145 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_144 : BitVec 32 := 2#32
  let v173 : BitVec 32 := Scalar.muli v2 c2_i32_144
  let v174 : BitVec 32 := Scalar.addi c0_i32_145 v173
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_146 : BitVec 32 := 1#32
  let v175 : BitVec 32 := Scalar.muli v6 c1_i32_146
  let v176 : BitVec 32 := Scalar.addi v174 v175
  v176.toNat
def k0_dev14 (d0 : Dev nD) : Nat :=
  let c0_i32_155 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_154 : BitVec 32 := 2#32
  let v185 : BitVec 32 := Scalar.muli v2 c2_i32_154
  let v186 : BitVec 32 := Scalar.addi c0_i32_155 v185
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_156 : BitVec 32 := 1#32
  let v187 : BitVec 32 := Scalar.muli v6 c1_i32_156
  let v188 : BitVec 32 := Scalar.addi v186 v187
  v188.toNat
def k0_dev15 (d0 : Dev nD) : Nat :=
  let c0_i32_165 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_164 : BitVec 32 := 2#32
  let v197 : BitVec 32 := Scalar.muli v2 c2_i32_164
  let v198 : BitVec 32 := Scalar.addi c0_i32_165 v197
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_166 : BitVec 32 := 1#32
  let v199 : BitVec 32 := Scalar.muli v6 c1_i32_166
  let v200 : BitVec 32 := Scalar.addi v198 v199
  v200.toNat
def k0_dev16 (d0 : Dev nD) : Nat :=
  let c0_i32_175 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_174 : BitVec 32 := 2#32
  let v209 : BitVec 32 := Scalar.muli v2 c2_i32_174
  let v210 : BitVec 32 := Scalar.addi c0_i32_175 v209
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_176 : BitVec 32 := 1#32
  let v211 : BitVec 32 := Scalar.muli v6 c1_i32_176
  let v212 : BitVec 32 := Scalar.addi v210 v211
  v212.toNat
def k0_dev17 (d0 : Dev nD) : Nat :=
  let c0_i32_185 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_184 : BitVec 32 := 2#32
  let v221 : BitVec 32 := Scalar.muli v2 c2_i32_184
  let v222 : BitVec 32 := Scalar.addi c0_i32_185 v221
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_186 : BitVec 32 := 1#32
  let v223 : BitVec 32 := Scalar.muli v6 c1_i32_186
  let v224 : BitVec 32 := Scalar.addi v222 v223
  v224.toNat
def k0_dev18 (d0 : Dev nD) : Nat :=
  let c0_i32_193 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_192 : BitVec 32 := 2#32
  let v233 : BitVec 32 := Scalar.muli v7 c2_i32_192
  let v234 : BitVec 32 := Scalar.addi c0_i32_193 v233
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_194 : BitVec 32 := 1#32
  let v235 : BitVec 32 := Scalar.muli v5 c1_i32_194
  let v236 : BitVec 32 := Scalar.addi v234 v235
  v236.toNat
def k0_off2 (d0 : Dev nD) (c0_i32_366 : BitVec 32) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v8 : BitVec 32 := Scalar.muli v2 c8_i32
  let v415 : BitVec 32 := Scalar.addi v8 c0_i32_366
  let v416 : Index := Scalar.indexCast v415
  let c0_367 : Index := 0#32
  let c0_368 : Index := 0#32
  ![v416.toNat, 0, 0]
def k0_off3 (d0 : Dev nD) (c0_i32_370 : BitVec 32) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v8 : BitVec 32 := Scalar.muli v2 c8_i32
  let v421 : BitVec 32 := Scalar.addi v8 c0_i32_370
  let c0_i32_376 : BitVec 32 := 0#32
  let c0_i32_377 : BitVec 32 := 0#32
  ![v421.toNat, 0, 0]
def k0_dev19 (d0 : Dev nD) : Nat :=
  let c0_i32_374 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_373 : BitVec 32 := 2#32
  let v422 : BitVec 32 := Scalar.muli v7 c2_i32_373
  let v423 : BitVec 32 := Scalar.addi c0_i32_374 v422
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_375 : BitVec 32 := 1#32
  let v424 : BitVec 32 := Scalar.muli v5 c1_i32_375
  let v425 : BitVec 32 := Scalar.addi v423 v424
  v425.toNat
def k0_dev20 (d0 : Dev nD) : Nat :=
  let c0_i32_427 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_426 : BitVec 32 := 2#32
  let v482 : BitVec 32 := Scalar.muli v7 c2_i32_426
  let v483 : BitVec 32 := Scalar.addi c0_i32_427 v482
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_428 : BitVec 32 := 1#32
  let v484 : BitVec 32 := Scalar.muli v5 c1_i32_428
  let v485 : BitVec 32 := Scalar.addi v483 v484
  v485.toNat
def k0_dev21 (d0 : Dev nD) : Nat :=
  let c0_i32_480 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_479 : BitVec 32 := 2#32
  let v542 : BitVec 32 := Scalar.muli v7 c2_i32_479
  let v543 : BitVec 32 := Scalar.addi c0_i32_480 v542
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_481 : BitVec 32 := 1#32
  let v544 : BitVec 32 := Scalar.muli v5 c1_i32_481
  let v545 : BitVec 32 := Scalar.addi v543 v544
  v545.toNat
def k0_dev22 (d0 : Dev nD) : Nat :=
  let c0_i32_533 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_532 : BitVec 32 := 2#32
  let v602 : BitVec 32 := Scalar.muli v7 c2_i32_532
  let v603 : BitVec 32 := Scalar.addi c0_i32_533 v602
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_534 : BitVec 32 := 1#32
  let v604 : BitVec 32 := Scalar.muli v5 c1_i32_534
  let v605 : BitVec 32 := Scalar.addi v603 v604
  v605.toNat
def k0_dev23 (d0 : Dev nD) : Nat :=
  let c0_i32_586 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_585 : BitVec 32 := 2#32
  let v662 : BitVec 32 := Scalar.muli v7 c2_i32_585
  let v663 : BitVec 32 := Scalar.addi c0_i32_586 v662
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_587 : BitVec 32 := 1#32
  let v664 : BitVec 32 := Scalar.muli v5 c1_i32_587
  let v665 : BitVec 32 := Scalar.addi v663 v664
  v665.toNat
def k0_dev24 (d0 : Dev nD) : Nat :=
  let c0_i32_639 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_638 : BitVec 32 := 2#32
  let v722 : BitVec 32 := Scalar.muli v7 c2_i32_638
  let v723 : BitVec 32 := Scalar.addi c0_i32_639 v722
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_640 : BitVec 32 := 1#32
  let v724 : BitVec 32 := Scalar.muli v5 c1_i32_640
  let v725 : BitVec 32 := Scalar.addi v723 v724
  v725.toNat
def k0_dev25 (d0 : Dev nD) : Nat :=
  let c0_i32_692 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_691 : BitVec 32 := 2#32
  let v782 : BitVec 32 := Scalar.muli v7 c2_i32_691
  let v783 : BitVec 32 := Scalar.addi c0_i32_692 v782
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_693 : BitVec 32 := 1#32
  let v784 : BitVec 32 := Scalar.muli v5 c1_i32_693
  let v785 : BitVec 32 := Scalar.addi v783 v784
  v785.toNat
def k0_dev26 (d0 : Dev nD) : Nat :=
  let c0_i32_745 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_744 : BitVec 32 := 2#32
  let v842 : BitVec 32 := Scalar.muli v7 c2_i32_744
  let v843 : BitVec 32 := Scalar.addi c0_i32_745 v842
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_746 : BitVec 32 := 1#32
  let v844 : BitVec 32 := Scalar.muli v5 c1_i32_746
  let v845 : BitVec 32 := Scalar.addi v843 v844
  v845.toNat
abbrev stage0_0 : Fin 1 → Memref sig .tc .vmem S2x512x8x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512x8x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x64x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x1024x8x64 : Shape := ⟨4, ![2, 1024, 8, 64]⟩
abbrev S2x8x1024x1024 : Shape := ⟨4, ![2, 8, 1024, 1024]⟩
abbrev S_ : Shape := ⟨0, ![]⟩
abbrev S2x8x1024 : Shape := ⟨3, ![2, 8, 1024]⟩
abbrev S2x8x1024x1 : Shape := ⟨4, ![2, 8, 1024, 1]⟩
abbrev S2x8x64x1024 : Shape := ⟨4, ![2, 8, 64, 1024]⟩
abbrev S16x64x1024 : Shape := ⟨3, ![16, 64, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2x1024x8x64, .bf16⟩
  | .hbm, ⟨1, _⟩ => ⟨S2x1024x8x64, .bf16⟩
  | .hbm, ⟨2, _⟩ => ⟨S2x1024x8x64, .bf16⟩
  | .hbm, ⟨3, _⟩ => ⟨S2x1024x8x64, .f32⟩
  | .hbm, ⟨4, _⟩ => ⟨S2x1024x8x64, .f32⟩
  | .hbm, ⟨5, _⟩ => ⟨S2x1024x8x64, .f32⟩
  | .hbm, ⟨6, _⟩ => ⟨S2x8x1024x1024, .f32⟩
  | .hbm, ⟨7, _⟩ => ⟨S_, .f32⟩
  | .hbm, ⟨8, _⟩ => ⟨S2x8x1024x1024, .f32⟩
  | .hbm, ⟨9, _⟩ => ⟨S2x8x1024x1024, .f32⟩
  | .hbm, ⟨10, _⟩ => ⟨S_, .f32⟩
  | .hbm, ⟨11, _⟩ => ⟨S2x8x1024, .f32⟩
  | .hbm, ⟨12, _⟩ => ⟨S2x8x1024x1, .f32⟩
  | .hbm, ⟨13, _⟩ => ⟨S2x8x1024x1024, .f32⟩
  | .hbm, ⟨14, _⟩ => ⟨S2x8x1024x1024, .f32⟩
  | .hbm, ⟨15, _⟩ => ⟨S2x8x1024x1024, .f32⟩
  | .hbm, ⟨16, _⟩ => ⟨S_, .f32⟩
  | .hbm, ⟨17, _⟩ => ⟨S2x8x1024, .f32⟩
  | .hbm, ⟨18, _⟩ => ⟨S2x8x1024x1, .f32⟩
  | .hbm, ⟨19, _⟩ => ⟨S2x8x1024x1024, .f32⟩
  | .hbm, ⟨20, _⟩ => ⟨S2x8x1024x1024, .f32⟩
  | .hbm, ⟨21, _⟩ => ⟨S2x8x64x1024, .f32⟩
  | .hbm, ⟨22, _⟩ => ⟨S2x1024x8x64, .f32⟩
  | .hbm, ⟨23, _⟩ => ⟨S2x1024x8x64, .bf16⟩
  | .hbm, ⟨24, _⟩ => ⟨S2x8x64x1024, .bf16⟩
  | .hbm, ⟨25, _⟩ => ⟨S16x64x1024, .bf16⟩
  | _, _ => ⟨S2x1024x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Proof.Body.lean ====
/-
# The kernel's body as loops

The printed body is one straight line of memory operations, its loops over the eight heads unrolled. Here it is written
again with the loops in place, one step for a head `j` and a side `b` (keys or values), and `body_eq` says the two are the
same program by unfolding. Every later module speaks of this form, so each step is proved once.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions

@[expose] public section

noncomputable section

namespace Cert.Attn

open Cert.KernelIdeal Cert.KernelIdeal.Gen
open Idealize.ShloMosaic Idealize.ShloMosaic.TcCoe
open Idealize.SL Idealize.SL.Sem

variable {F : FTy → Type} [FloatOps F]

/-! ## The memrefs -/

abbrev qIn : Memref sig .tc .vmem S2x512x8x64 .bf16 := Memref.whole cc0_stg0_0
abbrev kIn : Memref sig .tc .vmem S2x512x8x64 .bf16 := Memref.whole cc0_stg1_0
abbrev vIn : Memref sig .tc .vmem S2x512x8x64 .bf16 := Memref.whole cc0_stg2_0
abbrev outM : Memref sig .tc .vmem S16x64x512 .bf16 := Memref.whole cc0_stg3_0
abbrev qM : Memref sig .tc .vmem S8x64x512 .bf16 := Memref.whole cc0_scratch0
abbrev oaccM : Memref sig .tc .vmem S8x64x512 .f32 := Memref.whole cc0_scratch5
abbrev laccM : Memref sig .tc .vmem S8x512 .f32 := Memref.whole cc0_scratch6

/-- The device's own keys (`false`) and values (`true`), and the buffers the partner's land in. -/
abbrev srcR : Bool → Ref sig .tc := fun | false => cc0_scratch1 | true => cc0_scratch2
abbrev dstR : Bool → Ref sig .tc := fun | false => cc0_scratch3 | true => cc0_scratch4
abbrev srcM : Bool → Memref sig .tc .vmem S8x64x512 .bf16 := fun | false => Memref.whole cc0_scratch1 | true => Memref.whole cc0_scratch2
abbrev dstM : Bool → Memref sig .tc .vmem S8x64x512 .bf16 := fun | false => Memref.whole cc0_scratch3 | true => Memref.whole cc0_scratch4

/-! ## Head `j` of a buffer of eight heads -/

theorem inb8 (j : Fin 8) : ∀ a, (![j.val, 0, 0] : Fin 3 → ℕ) a + S1x64x512.size a ≤ S8x64x512.size a := by
  revert j; decide
theorem inbL (j : Fin 8) : ∀ a, (![j.val, 0] : Fin 2 → ℕ) a + S1x512.size a ≤ S8x512.size a := by
  revert j; decide

abbrev row8 (j : Fin 8) : Rect S8x64x512 := Rect.unit (s := S8x64x512) ![j.val, 0, 0] S1x64x512.size (inb8 j)
abbrev rowL (j : Fin 8) : Rect S8x512 := Rect.unit (s := S8x512) ![j.val, 0] S1x512.size (inbL j)

theorem words8 (j : Fin 8) : (row8 j).WholeWords (EltTy.packing .bf16) := by revert j; decide

/-- Head `j` of such a buffer as a 64 × 512 matrix: what the copies move. -/
abbrev head (M : Memref sig .tc .vmem S8x64x512 .bf16) (j : Fin 8) : Memref sig .tc .vmem S64x512 .bf16 :=
  (M.slice (row8 j) (fun _ => rfl)).squeeze S64x512 squeezes_S1x64x512_S64x512

theorem srcM_whole (b : Bool) : (srcM b).IsWhole := by cases b <;> exact Memref.isWhole_whole _
theorem dstM_whole (b : Bool) : (dstM b).IsWhole := by cases b <;> exact Memref.isWhole_whole _

theorem head_exact {M : Memref sig .tc .vmem S8x64x512 .bf16} (h : M.IsWhole) (j : Fin 8) : (head M j).view.WordExact :=
  (h.wordExact_slice rfl _ (words8 j)).reshape _ _

/-- Row `8 * x + j` of the result's buffer, `x` the device's first mesh coordinate: head `j` of the batch entry it computes. -/
abbrev orow (d : Dev nD) (j : Fin 8) : Rect S16x64x512 :=
  Rect.unit (s := S16x64x512) (k0_off2 d (BitVec.ofNat 32 j.val)) S1x64x512.size (k0_off2_inb d j)
abbrev orow' (d : Dev nD) (j : Fin 8) : Rect S16x64x512 :=
  Rect.unit (s := S16x64x512) (k0_off3 d (BitVec.ofNat 32 j.val)) S1x64x512.size (k0_off3_inb d j)
abbrev ohead (d : Dev nD) (j : Fin 8) : Memref sig .tc .vmem S64x512 .bf16 :=
  (outM.slice (orow' d j) (fun _ => rfl)).squeeze S64x512 squeezes_S1x64x512_S64x512

theorem ohead_exact (d : Dev nD) (j : Fin 8) : (ohead d j).view.WordExact :=
  ((Memref.isWhole_whole cc0_stg3_0).wordExact_slice rfl _ (k0_off3_wordsbf16 d j)).reshape _ _

/-! ## The semaphores -/

/-- The number of head `j`'s copy on side `b`, in the order they start. -/
abbrev ix (j : Fin 8) (b : Bool) : ℕ := 2 * j.val + b.toNat

theorem inb16 (j : Fin 8) (b : Bool) : ∀ a, (![ix j b] : Fin 1 → ℕ) a + S1.size a ≤ S16.size a := by
  revert j b; decide
theorem inbS8 (j : Fin 8) : ∀ a, (![j.val] : Fin 1 → ℕ) a + S1.size a ≤ S8.size a := by
  revert j; decide

abbrev barS : Sems sig S_ := SemArray.scalar (sig.barrier 0 rfl)
abbrev xbarS : Sems sig S_ := cc0_scratch11
abbrev kvSendS (j : Fin 8) (b : Bool) : DmaSems sig S_ :=
  (cc0_scratch7.slice (Rect.unit (s := S16) ![ix j b] S1.size (inb16 j b))).squeeze S_ squeezes_S1_S_
abbrev kvRecvS (j : Fin 8) (b : Bool) : DmaSems sig S_ :=
  (cc0_scratch8.slice (Rect.unit (s := S16) ![ix j b] S1.size (inb16 j b))).squeeze S_ squeezes_S1_S_
abbrev oSendS (j : Fin 8) : DmaSems sig S_ :=
  (cc0_scratch9.slice (Rect.unit (s := S8) ![j.val] S1.size (inbS8 j))).squeeze S_ squeezes_S1_S_
abbrev oRecvS (j : Fin 8) : DmaSems sig S_ :=
  (cc0_scratch10.slice (Rect.unit (s := S8) ![j.val] S1.size (inbS8 j))).squeeze S_ squeezes_S1_S_

/-! ## The steps -/

/-- A loop over a list of heads. -/
def loop {E : Type → Type} (f : Fin 8 → Prog E PUnit) : List (Fin 8) → Prog E PUnit
  | [] => pure ⟨⟩
  | j :: l => f j >>= fun _ => loop f l

abbrev heads : List (Fin 8) := [0, 1, 2, 3, 4, 5, 6, 7]
abbrev laterHeads : List (Fin 8) := [1, 2, 3, 4, 5, 6, 7]

abbrev all8 : Rect S8x64x512 := Rect.unit (s := S8x64x512) ![0, 0, 0] S8x64x512.size inb_S8x64x512_S8x64x512_0_0_0
abbrev batch (d : Dev nD) : Rect S2x512x8x64 := Rect.unit (s := S2x512x8x64) (k0_off1 d) S1x512x8x64.size (k0_off1_inb d)

/-- One array read at the device's batch entry, and stored transposed. -/
def prepStep (d : Dev nD) (A : Memref sig .tc .vmem S2x512x8x64 .bf16) (M : Memref sig .tc .vmem S8x64x512 .bf16) (hM : M.IsWhole)
    (pay : Vec F S1x512x8x64 .bf16 → FVec F S8x64x512 .bf16) : Prog (TpuEff nD τ sig (Elt F) Λ₀ .tc) PUnit := do
  let x : Vec F S1x512x8x64 .bf16 ← Prog.lift (.load A (batch d).toLoadRect (View.loadsAt_vmem h_S1x512x8x64))
  let _x : Vec F S8x64x512 .bf16 ← Prog.lift (.load M all8.toLoadRect (View.loadsAt_vmem h_S8x64x512))
  Prog.lift (.store M all8 (pay x) Finset.univ
    (View.stores_vmem h_S8x64x512 (hM.storeExact_slice rfl _ packedbf16_S8x64x512_S8x64x512_0_0_0) (fun _ => rfl)) (.inl rfl))

/-- Head `j`'s copy on side `b`, to the partner along the second axis. -/
def sendStep (d : Dev nD) (j : Fin 8) (b : Bool) : Prog (TpuEff nD τ sig (Elt F) Λ₀ .tc) PUnit :=
  Prog.lift (.enqueueDma (head (srcM b) j) (.remote (Dev.tc (⟨k0_dev2 d, k0_dev2_lt d⟩ : Dev nD)) (head (dstM b) j) (.dma (kvSendS j b).sem))
    (.dma (kvRecvS j b).sem) (head_exact (srcM_whole b) j) (head_exact (dstM_whole b) j)
    (match b with | false => ⟨⟨rfl, Or.inl rfl⟩, trivial⟩ | true => ⟨⟨rfl, Or.inl rfl⟩, trivial⟩))

/-- Head `j` against the device's own keys and values. -/
def localStep (j : Fin 8) : Prog (TpuEff nD τ sig (Elt F) Λ₀ .tc) PUnit := do
  let k : Vec F S1x64x512 .bf16 ← Prog.lift (.load (srcM false) (row8 j).toLoadRect (View.loadsAt_vmem h_S1x64x512))
  let q : Vec F S1x64x512 .bf16 ← Prog.lift (.load qM (row8 j).toLoadRect (View.loadsAt_vmem h_S1x64x512))
  let v : Vec F S1x64x512 .bf16 ← Prog.lift (.load (srcM true) (row8 j).toLoadRect (View.loadsAt_vmem h_S1x64x512))
  let _l : Vec F S1x512 .f32 ← Prog.lift (.load laccM (rowL j).toLoadRect (View.loadsAt_vmem h_S1x512))
  Prog.lift (.store laccM (rowL j) (k0_pay7 k0_pay5 k q) Finset.univ (View.stores_vmem_bits_univ h_S1x512 rfl) (.inl rfl))
  let _o : Vec F S1x64x512 .f32 ← Prog.lift (.load oaccM (row8 j).toLoadRect (View.loadsAt_vmem h_S1x64x512))
  Prog.lift (.store oaccM (row8 j) (k0_pay8 k q v) Finset.univ (View.stores_vmem_bits_univ h_S1x64x512 rfl) (.inl rfl))

/-- The wait for head `j`'s copy from the partner, on side `b`. -/
def recvStep (j : Fin 8) (b : Bool) : Prog (TpuEff nD τ sig (Elt F) Λ₀ .tc) PUnit :=
  Prog.lift (.waitDma2 (kvRecvS j b).sem (head (srcM b) j) (head (dstM b) j) (head_exact (srcM_whole b) j) (head_exact (dstM_whole b) j))

/-- The result of head `j` from the partner's keys and values, the queries and the local sums, in the kernel's order. -/
abbrev headOut (k q v : Vec F S1x64x512 .bf16) (o : Vec F S1x64x512 .f32) (l : Vec F S1x512 .f32) : FVec F S1x64x512 .bf16 :=
  k0_pay48 (k0_pay47 k0_pay5 k q v o l)

/-- Head `j` against the partner's keys and values; its result stored. -/
def headStep (d : Dev nD) (j : Fin 8) : Prog (TpuEff nD τ sig (Elt F) Λ₀ .tc) PUnit := do
  let k : Vec F S1x64x512 .bf16 ← Prog.lift (.load (dstM false) (row8 j).toLoadRect (View.loadsAt_vmem h_S1x64x512))
  let q : Vec F S1x64x512 .bf16 ← Prog.lift (.load qM (row8 j).toLoadRect (View.loadsAt_vmem h_S1x64x512))
  let v : Vec F S1x64x512 .bf16 ← Prog.lift (.load (dstM true) (row8 j).toLoadRect (View.loadsAt_vmem h_S1x64x512))
  let o : Vec F S1x64x512 .f32 ← Prog.lift (.load oaccM (row8 j).toLoadRect (View.loadsAt_vmem h_S1x64x512))
  let l : Vec F S1x512 .f32 ← Prog.lift (.load laccM (rowL j).toLoadRect (View.loadsAt_vmem h_S1x512))
  let _r : Vec F S1x64x512 .bf16 ← Prog.lift (.load outM (orow d j).toLoadRect (View.loadsAt_vmem h_S1x64x512))
  Prog.lift (.store outM (orow d j) (headOut k q v o l) Finset.univ
    (View.stores_vmem h_S1x64x512 ((Memref.isWhole_whole cc0_stg3_0).storeExact_slice rfl _ (k0_off2_packedbf16 d j)) (fun _ => rfl)) (.inl rfl))
/-- The copy of head `j`'s result to the partner along the first axis. -/
def outStep (d : Dev nD) (j : Fin 8) : Prog (TpuEff nD τ sig (Elt F) Λ₀ .tc) PUnit :=
  Prog.lift (.enqueueDma (ohead d j) (.remote (Dev.tc (⟨k0_dev19 d, k0_dev19_lt d⟩ : Dev nD)) (ohead d j) (.dma (oSendS j).sem))
    (.dma (oRecvS j).sem) (ohead_exact d j) (ohead_exact d j) ⟨⟨rfl, Or.inl rfl⟩, trivial⟩)
def remoteStep (d : Dev nD) (j : Fin 8) : Prog (TpuEff nD τ sig (Elt F) Λ₀ .tc) PUnit := do
  headStep d j
  outStep d j

def oRecvStep (d : Dev nD) (j : Fin 8) : Prog (TpuEff nD τ sig (Elt F) Λ₀ .tc) PUnit :=
  Prog.lift (.waitDma2 (oRecvS j).sem (ohead d j) (ohead d j) (ohead_exact d j) (ohead_exact d j))
def oSendStep (d : Dev nD) (j : Fin 8) : Prog (TpuEff nD τ sig (Elt F) Λ₀ .tc) PUnit :=
  Prog.lift (.waitDma2 (oSendS j).sem (ohead d j) (ohead d j) (ohead_exact d j) (ohead_exact d j))
def sentStep (j : Fin 8) (b : Bool) : Prog (TpuEff nD τ sig (Elt F) Λ₀ .tc) PUnit :=
  Prog.lift (.waitDma2 (kvSendS j b).sem (head (dstM b) j) (head (srcM b) j) (head_exact (dstM_whole b) j) (head_exact (srcM_whole b) j))

/-- The whole body. -/
def body : Prog (TpuEff nD τ sig (Elt F) Λ₀ .tc) PUnit := do
  let d : Dev nD ← Prog.lift .deviceId
  prepStep d qIn qM (Memref.isWhole_whole _) k0_pay1
  prepStep d kIn (srcM false) (srcM_whole false) k0_pay2
  prepStep d vIn (srcM true) (srcM_whole true) (fun x => k0_pay4 (k0_pay3 x))
  semSignalWord (⟨k0_dev1 d, k0_dev1_lt d⟩ : Dev nD) barS.sem 1#32
  semWaitWord barS.sem 1#32
  loop (fun j => do sendStep d j false; sendStep d j true) heads
  semSignalWord (⟨k0_dev18 d, k0_dev18_lt d⟩ : Dev nD) xbarS.sem 1#32
  loop localStep heads
  recvStep 0 false
  recvStep 0 true
  semWaitWord xbarS.sem 1#32
  remoteStep d 0
  loop (fun j => do recvStep j false; recvStep j true; remoteStep d j) laterHeads
  loop (oRecvStep d) heads
  loop (fun j => do oSendStep d j; sentStep j false; sentStep j true) heads

/-- The printed body, at the buffers the launch calls it with. -/
abbrev printed : Prog (TpuEff nD τ sig (Elt F) Λ₀ .tc) PUnit :=
  cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11

set_option maxRecDepth 100000 in
/-- The printed body is the loops: by unfolding. -/
theorem body_eq : (printed : Prog (TpuEff nD τ sig (Elt F) Λ₀ .tc) PUnit) = body := by
  chain_rfl

end Cert.Attn

end
-- ==== Proof.Cells.lean ====
/-
# The semaphore cells, their contents and the schedule

Fifty cells a device: the barrier's, the exchange barrier's, a sent and a received cell for each head and side, a sent and a
received cell for each head's result. Each is paid once, by one device (`tgt`), and the payment hands over one thing
(`pay`): the right to write into buffers (the two barriers), or the contents a copy left (the others). What a device still
owes is a list of cells (`owedL`), and what it may wait for is read off their levels.
-/
module

public import proofs.«01_k».proof.Proof.Body
public import Idealize.ShloMosaic.Lib.Pipeline.Launch
public import Idealize.ShloMosaic.Lib.Pipeline.Kit
public import Idealize.ShloMosaic.Lib.Tactic
public import Idealize.ShloMosaic.Lib.Ring

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-! ## The two partners -/

/-- The partner along the second mesh axis: the device with the other half of the keys. -/
def ypeer (c : Dev nD) : Dev nD := ⟨(2 * (c.val / 2) + 1) - c.val % 2, by have := c.isLt; revert this; generalize c.val = v; decide +revert⟩
/-- The partner along the first: the device that computes the other batch entry. -/
def xpeer (c : Dev nD) : Dev nD := ⟨(c.val % 2 + 2) - 2 * (c.val / 2), by have := c.isLt; revert this; generalize c.val = v; decide +revert⟩

theorem ypeer_ypeer (c : Dev nD) : ypeer (ypeer c) = c := by revert c; decide
theorem xpeer_xpeer (c : Dev nD) : xpeer (xpeer c) = c := by revert c; decide

theorem dev1_eq (c : Dev nD) : (⟨k0_dev1 c, k0_dev1_lt c⟩ : Dev nD) = ypeer c := Fin.ext (k0_dev1_eq c)
theorem dev2_eq (c : Dev nD) : (⟨k0_dev2 c, k0_dev2_lt c⟩ : Dev nD) = ypeer c := Fin.ext (k0_dev2_eq c)
theorem dev18_eq (c : Dev nD) : (⟨k0_dev18 c, k0_dev18_lt c⟩ : Dev nD) = xpeer c := Fin.ext (k0_dev18_eq c)
theorem dev19_eq (c : Dev nD) : (⟨k0_dev19 c, k0_dev19_lt c⟩ : Dev nD) = xpeer c := Fin.ext (k0_dev19_eq c)

/-! ## The cells -/

/-- The kernel's own cells, and with the barrier's all of them. -/
abbrev OC : Type := Unit ⊕ (Fin 8 × Bool) ⊕ (Fin 8 × Bool) ⊕ Fin 8 ⊕ Fin 8
abbrev CK : Type := Unit ⊕ OC
instance : DecidableEq OC := inferInstance
instance : DecidableEq CK := inferInstance
@[match_pattern] abbrev bar : CK := .inl ()
@[match_pattern] abbrev xbar : CK := .inr (.inl ())
@[match_pattern] abbrev kvS (x : Fin 8 × Bool) : CK := .inr (.inr (.inl x))
@[match_pattern] abbrev kvR (x : Fin 8 × Bool) : CK := .inr (.inr (.inr (.inl x)))
@[match_pattern] abbrev oS (j : Fin 8) : CK := .inr (.inr (.inr (.inr (.inl j))))
@[match_pattern] abbrev oR (j : Fin 8) : CK := .inr (.inr (.inr (.inr (.inr j))))

/-- The semaphore a cell lives on. -/
def csem : CK → SemLoc sig
  | bar => .reg barS.sem
  | xbar => .reg xbarS.sem
  | kvS x => .dma (kvSendS x.1 x.2).sem
  | kvR x => .dma (kvRecvS x.1 x.2).sem
  | oS j => .dma (oSendS j).sem
  | oR j => .dma (oRecvS j).sem
abbrev osem : OC → SemLoc sig := fun k => csem (.inr k)

/-- A number for each semaphore, and the cell with that number. -/
def semNum : SemLoc sig → ℕ
  | .reg s => s.val
  | .dma s => 2 + s.val
def ckNum : CK → ℕ
  | bar => 1
  | xbar => 0
  | kvS x => 6 + ix x.1 x.2
  | kvR x => 22 + ix x.1 x.2
  | oS j => 38 + j.val
  | oR j => 46 + j.val
theorem semNum_csem (k : CK) : semNum (csem k) = ckNum k := by revert k; decide
set_option maxRecDepth 20000 in
theorem ckNum_inj : Function.Injective ckNum := by decide
theorem csem_inj : Function.Injective csem := fun k k' h => ckNum_inj (by rw [← semNum_csem, ← semNum_csem, h])

abbrev cell (c : Dev nD) (k : CK) : GSem nD τ sig := ((c : Thread nD τ), csem k)
abbrev kcell (x : Dev nD × CK) : GSem nD τ sig := cell x.1 x.2
theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

/-- The cell on a semaphore, if there is one. -/
def ofSem (s : SemLoc sig) : Option CK := by
  classical exact if h : ∃ k, csem k = s then some h.choose else none
theorem ofSem_csem (k : CK) : ofSem (csem k) = some k := by
  have h : ∃ k', csem k' = csem k := ⟨k, rfl⟩
  unfold ofSem; rw [dif_pos h]; exact congrArg some (csem_inj h.choose_spec)

/-- The device that device `c` pays a cell of kind `k` to — and so the one that pays `c`'s own. -/
def tgt : CK → Dev nD → Dev nD
  | bar => ypeer
  | xbar => xpeer
  | kvS _ => id
  | kvR _ => ypeer
  | oS _ => id
  | oR _ => xpeer
theorem tgt_tgt (k : CK) (c : Dev nD) : tgt k (tgt k c) = c := by
  rcases k with ⟨⟩ | ⟨⟩ | x | x | j | j
  · exact ypeer_ypeer c
  · exact xpeer_xpeer c
  · rfl
  · exact ypeer_ypeer c
  · rfl
  · exact xpeer_xpeer c
def swap (k : CK) : Dev nD ≃ Dev nD := ⟨tgt k, tgt k, tgt_tgt k, tgt_tgt k⟩

/-- The credit of one head's copy. -/
abbrev N : ℕ := (head (srcM false) 0).view.dmaCredit
theorem N_pos : 0 < N := View.dmaCredit_pos _ (by decide)
def amt : CK → ℕ
  | bar => 1
  | xbar => 1
  | _ => N
theorem amt_pos (k : CK) : 0 < amt k := by
  rcases k with ⟨⟩ | ⟨⟩ | x | x | j | j <;> first | exact Nat.one_pos | exact N_pos

/-! ## Contents -/

def stgQ (c : Dev nD) : (cc0_stg0_0 : Ref sig .tc).ty.Contents (Elt F) := (win0_0.blk (0 : Fin 1)).view.read (Elt F) (m ((c : Thread nD τ).loc main_arg0))
def stgK (c : Dev nD) : (cc0_stg1_0 : Ref sig .tc).ty.Contents (Elt F) := (win0_1.blk (0 : Fin 1)).view.read (Elt F) (m ((c : Thread nD τ).loc main_arg1))
def stgV (c : Dev nD) : (cc0_stg2_0 : Ref sig .tc).ty.Contents (Elt F) := (win0_2.blk (0 : Fin 1)).view.read (Elt F) (m ((c : Thread nD τ).loc main_arg2))

/-- The batch entry a device computes, of an array of both. -/
def batchOf (c : Dev nD) (f : Vec F S2x512x8x64 .bf16) : Vec F S1x512x8x64 .bf16 := fun i => f ((batch c).emb i)

def qVal (c : Dev nD) : Vec F S8x64x512 .bf16 := k0_pay1 (batchOf c (stgQ m c))
def kVal (c : Dev nD) : Vec F S8x64x512 .bf16 := k0_pay2 (batchOf c (stgK m c))
def vVal (c : Dev nD) : Vec F S8x64x512 .bf16 := k0_pay4 (k0_pay3 (batchOf c (stgV m c)))
def kvVal (c : Dev nD) : Bool → Vec F S8x64x512 .bf16
  | false => kVal m c
  | true => vVal m c

/-- Head `j` of such contents. -/
def headOf {e : EltTy} (f : Vec F S8x64x512 e) (j : Fin 8) : Vec F S1x64x512 e := fun i => f ((row8 j).emb i)
def headL (f : Vec F S8x512 .f32) (j : Fin 8) : Vec F S1x512 .f32 := fun i => f ((rowL j).emb i)

def kvSrc (c : Dev nD) : (b : Bool) → Buf (Elt F) ((srcM b).view.loc (c : Thread nD τ))
  | false => kVal m c
  | true => vVal m c
def kvDst (c : Dev nD) : (b : Bool) → Buf (Elt F) ((dstM b).view.loc (c : Thread nD τ))
  | false => kVal m (ypeer c)
  | true => vVal m (ypeer c)

/-- The sums over the device's own keys. -/
def lLoc (c : Dev nD) (j : Fin 8) : Vec F S1x512 .f32 := k0_pay7 k0_pay5 (headOf (kVal m c) j) (headOf (qVal m c) j)
def oLoc (c : Dev nD) (j : Fin 8) : Vec F S1x64x512 .f32 := k0_pay8 (headOf (kVal m c) j) (headOf (qVal m c) j) (headOf (vVal m c) j)
/-- The result of head `j` on device `c`. -/
def outRow (c : Dev nD) (j : Fin 8) : Vec F S1x64x512 .bf16 :=
  headOut (headOf (kVal m (ypeer c)) j) (headOf (qVal m c) j) (headOf (vVal m (ypeer c)) j) (oLoc m c j) (lLoc m c j)

/-- The device of `c`'s column that computes row `r` of the result. -/
def rowDev (c : Dev nD) (r : Fin 16) : Dev nD := ⟨2 * (r.val / 8) + c.val % 2, by have := r.isLt; show _ < 4; omega⟩
def rowHead (r : Fin 16) : Fin 8 := ⟨r.val % 8, Nat.mod_lt _ (by decide)⟩
/-- A row's own index under it. -/
def inRow (i : S16x64x512.Idx) : S1x64x512.Idx := fun
  | 0 => (⟨0, by decide⟩ : Fin 1)
  | 1 => (i 1 : Fin 64)
  | 2 => (i 2 : Fin 512)
/-- The result: each row from the device that computes it. -/
def outv (c : Dev nD) : Vec F S16x64x512 .bf16 := fun i => outRow m (rowDev c (i 0)) (rowHead (i 0)) (inRow i)

/-! ## The rows of the result's buffer -/

theorem inbO (d : Dev nD) (j : Fin 8) : ∀ a, (![8 * (d.val / 2) + j.val, 0, 0] : Fin 3 → ℕ) a + S1x64x512.size a ≤ S16x64x512.size a := by
  revert d j; decide
abbrev orowR (d : Dev nD) (j : Fin 8) : Rect S16x64x512 := Rect.unit (s := S16x64x512) ![8 * (d.val / 2) + j.val, 0, 0] S1x64x512.size (inbO d j)

theorem unit_congr {s : Shape} {off off' size : Fin s.rank → ℕ} (h : off = off') (inb : ∀ a, off a + size a ≤ s.size a)
    (inb' : ∀ a, off' a + size a ≤ s.size a) : Rect.unit (s := s) off size inb = Rect.unit off' size inb' := by subst h; rfl

theorem orow_eq (d : Dev nD) (j : Fin 8) : orow d j = orowR d j := unit_congr (k0_off2_eq d j) _ _
theorem orow'_eq (d : Dev nD) (j : Fin 8) : orow' d j = orowR d j := unit_congr (k0_off3_eq d j) _ _

theorem outv_emb (c d : Dev nD) (h : d.val % 2 = c.val % 2) (j : Fin 8) (x : S1x64x512.Idx) :
    outv m c ((orowR d j).emb x) = outRow m d j x := by
  have hx : (x 0).val = 0 := by have h1 : (x 0).val < 1 := (x 0).isLt; omega
  have h0 : ((orowR d j).emb x 0).val = 8 * (d.val / 2) + j.val := by
    show 8 * (d.val / 2) + j.val + 1 * (x 0).val = _; omega
  have hj := j.isLt
  have hd : rowDev c ((orowR d j).emb x 0) = d := Fin.ext (by
    show 2 * (((orowR d j).emb x 0).val / 8) + c.val % 2 = d.val
    rw [h0]; omega)
  have hh : rowHead ((orowR d j).emb x 0) = j := Fin.ext (by
    show ((orowR d j).emb x 0).val % 8 = j.val
    rw [h0]; omega)
  have hr : inRow ((orowR d j).emb x) = x := by
    funext a
    match a with
    | 0 => exact Fin.ext hx.symm
    | 1 => exact Fin.ext (show 0 + 1 * (x 1).val = (x 1).val by omega)
    | 2 => exact Fin.ext (show 0 + 1 * (x 2).val = (x 2).val by omega)
  show outRow m (rowDev c ((orowR d j).emb x 0)) (rowHead ((orowR d j).emb x 0)) (inRow ((orowR d j).emb x)) = _
  rw [hd, hh, hr]

theorem xpeer_mod (c : Dev nD) : (xpeer c).val % 2 = c.val % 2 := by revert c; decide

/-- Both devices of a column end with the same result. -/
theorem outv_xpeer (c : Dev nD) : outv m (xpeer c) = outv m c := by
  funext i
  have h : ∀ r, rowDev (xpeer c) r = rowDev c r := fun r => Fin.ext (by
    show 2 * (r.val / 8) + (xpeer c).val % 2 = 2 * (r.val / 8) + c.val % 2
    rw [xpeer_mod])
  exact congrArg (fun d => outRow m d (rowHead (i 0)) (inRow i)) (h (i 0))

/-! ## What is held of the buffers -/

/-- Head `j` of a device's own keys or values, at half a share: what a copy reads from. -/
def srcPts (c : Dev nD) (x : Fin 8 × Bool) : sProp 𝕄 :=
  (head (srcM x.2) x.1).view.loc (c : Thread nD τ) ↦[(head (srcM x.2) x.1).view.set]{fullShare.right} kvSrc m c x.2
/-- Head `j` of the partner's, landed. -/
def dstPts (c : Dev nD) (x : Fin 8 × Bool) (f : Buf (Elt F) ((dstM x.2).view.loc (c : Thread nD τ))) : sProp 𝕄 :=
  (head (dstM x.2) x.1).view.loc (c : Thread nD τ) ↦[(head (dstM x.2) x.1).view.set]{fullShare} f
/-- The rows of the result's buffer on device `c` that device `d` computes. -/
def outPts (c d : Dev nD) (j : Fin 8) (f : Buf (Elt F) (outM.view.loc (c : Thread nD τ))) : sProp 𝕄 :=
  (ohead d j).view.loc (c : Thread nD τ) ↦[(ohead d j).view.set]{fullShare} f

instance srcPts_storable (c : Dev nD) (x) : BI.Storable (upEmb : UEmb _ 𝕄) (srcPts (F := F) m c x) := by unfold srcPts; infer_instance
instance dstPts_storable (c : Dev nD) (x) (f) : BI.Storable (upEmb : UEmb _ 𝕄) (dstPts (F := F) c x f) := by unfold dstPts; infer_instance
instance outPts_storable (c d : Dev nD) (j) (f) : BI.Storable (upEmb : UEmb _ 𝕄) (outPts (F := F) c d j f) := by unfold outPts; infer_instance

/-- What the payment into device `c`'s cell `k` hands over. -/
def pay (c : Dev nD) : CK → sProp 𝕄
  | bar => bigSep Finset.univ fun x : Fin 8 × Bool => iprop(∃ f, dstPts (ypeer c) x f)
  | xbar => bigSep Finset.univ fun j : Fin 8 => iprop(∃ f, outPts (xpeer c) c j f)
  | kvS x => srcPts m c x
  | kvR x => dstPts c x (kvDst m c x.2)
  | oS j => outPts c c j (outv m c)
  | oR j => outPts c (xpeer c) j (outv m c)

instance pay_storable (c : Dev nD) (k : CK) : BI.Storable (upEmb : UEmb _ 𝕄) (pay (F := F) m c k) := by
  rcases k with ⟨⟩ | ⟨⟩ | x | x | j | j <;> dsimp only [pay] <;> infer_instance

/-! ## The schedule -/

def Rd : Rounds.Schedule (GSem nD τ sig) Unit 𝕄 where
  duties g r := if r = 0 ∧ g.1.2 = .tc ∧ (ofSem g.2).isSome then {()} else ∅
  unitless _ := False
  amount g _ _ := match ofSem g.2 with | some k => amt k | none => 1
  payload g _ _ := match ofSem g.2 with | some k => pay m g.1.1 k | none => iprop(emp)
  amount_pos g _ _ _ := by
    cases ofSem g.2 with
    | none => exact Nat.one_pos
    | some k => exact amt_pos k

instance Rd_payload_storable (g : GSem nD τ sig) (r : ℕ) (d : Unit) : BI.Storable (upEmb : UEmb _ 𝕄) ((Rd (F := F) m).payload g r d) := by
  show BI.Storable upEmb (match ofSem g.2 with | some k => pay m g.1.1 k | none => iprop(emp))
  cases ofSem g.2 <;> dsimp only <;> infer_instance

section Sched
variable (c : Dev nD) (k : CK)

theorem duties_cell : (Rd (F := F) m).duties (cell c k) 0 = {()} := by
  dsimp only [Rd]; exact if_pos ⟨rfl, rfl, by rw [ofSem_csem]; rfl⟩
theorem duties_later (g : GSem nD τ sig) : ∀ r, 1 ≤ r → (Rd (F := F) m).duties g r = ∅ :=
  fun r hr => by dsimp only [Rd]; exact if_neg fun h => by omega
theorem amount_cell (u : Unit) : (Rd (F := F) m).amount (cell c k) 0 u = amt k := by
  dsimp only [Rd]; rw [ofSem_csem]
theorem expect_cell : (Rd (F := F) m).expect (cell c k) 0 = amt k := by
  unfold Schedule.expect Schedule.amountOf; rw [duties_cell, Finset.sum_singleton, amount_cell]
theorem payload_cell (u : Unit) : (Rd (F := F) m).payload (cell c k) 0 u = pay m c k := by
  dsimp only [Rd]; rw [ofSem_csem]
theorem rest_cell : bigSep ((Rd (F := F) m).duties (cell c k) 0 \ ∅) (fun u => (Rd (F := F) m).payload (cell c k) 0 u) = pay m c k := by
  rw [Finset.sdiff_empty, duties_cell, bigSep_singleton, payload_cell]

end Sched

/-! ## What a device owes, and the levels -/

/-- Device `c` owes each cell of the list, at the device it pays it to; the head of the list is paid first. -/
def owedL (c : Dev nD) : List CK → CellTallies nD τ sig Unit
  | [] => 0
  | k :: l => owedL c l + tallyAt (cell (tgt k c) k) () (amt k)

def kvList : List (Fin 8) → List CK → List CK
  | [], r => r
  | j :: l, r => kvR (j, false) :: kvR (j, true) :: kvList l r
def oList (l : List (Fin 8)) : List CK := l.map oR
abbrev afterKv : List CK := xbar :: oList heads
abbrev allOwed : List CK := bar :: kvList heads afterKv
def O₀ (c : Dev nD) : CellTallies nD τ sig Unit := owedL c allOwed

def lvk : CK → ℕ
  | bar => 1
  | xbar => 2
  | kvS _ => 0
  | kvR _ => 2
  | oS _ => 0
  | oR _ => 3
def L (g : GSem nD τ sig) : Finset Unit := if g.1.2 = .tc then {()} else ∅
def lv (g : GSem nD τ sig) (_ : Unit) : ℕ := match ofSem g.2 with | some k => lvk k | none => 0
theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) (u : Unit) : lv (cell c k) u = lvk k := by unfold lv; rw [ofSem_csem]

theorem owedL_pos {c : Dev nD} {g : GSem nD τ sig} {u : Unit} : ∀ {l : List CK}, 0 < owedL c l g u → ∃ k ∈ l, g = cell (tgt k c) k
  | [], h => absurd h (Nat.lt_irrefl 0)
  | k :: l, h => by
    unfold owedL at h
    rw [Pi.add_apply, Finsupp.add_apply, tallyAt_apply] at h
    by_cases hg : g = cell (tgt k c) k
    · exact ⟨k, List.mem_cons_self, hg⟩
    · rw [if_neg (fun h' => hg h'.1), Nat.add_zero] at h
      obtain ⟨k', hk', e⟩ := owedL_pos h
      exact ⟨k', List.mem_cons_of_mem _ hk', e⟩

/-- A device may wait on a semaphore below everything it owes. -/
theorem mayWait (c : Dev nD) (sm : SemLoc sig) (l : List CK) (h : ∀ k ∈ l, lv ((c : Thread nD τ), sm) () < lvk k) :
    (levAts L lv : sProp 𝕄) ⊢ MayWait (c : Thread nD τ) sm () (owedL c l) :=
  MayOwe.of_cut (L := L) (lev := lv) (lv ((c : Thread nD τ), sm) ()) (fun p hp => by rw [Finset.mem_singleton.mp hp, L_tc]; exact Finset.mem_singleton_self _)
    (fun g u hg => by obtain ⟨k, _, rfl⟩ := owedL_pos hg; rw [L_tc]; exact Finset.mem_singleton_self _)
    (fun p hp => by rw [Finset.mem_singleton.mp hp])
    (fun g u hg => by obtain ⟨k, hk, rfl⟩ := owedL_pos hg; rw [lv_cell]; exact h k hk)

theorem lv_allOwed : ∀ k ∈ allOwed, 0 < lvk k := by decide

end Cert.Attn

end
-- ==== Proof.Steps.lean ====
/-
# The steps' triples

One triple for each kind of step of the body: a signal, a wait, a copy, the loads and stores of a head. A loop is run by one
lemma (`wp_loop`) from the triple of its step.
-/
module

public import proofs.«01_k».proof.Proof.Cells
public import Idealize.ShloMosaic.Lib.Pipeline.BigSepL

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- A program's weakest precondition on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What never changes: the invariants and the levels -/

def records (K : Dev nD × CK → ℕ) : sProp 𝕄 :=
  iprop((bigSep Finset.univ fun x : Dev nD × CK => cellInv ER (Rd m) (K x) (kcell x))
    ∗ (bigSep Finset.univ fun x : Dev nD × CK => reached ER (kcell x) 0) ∗ levAts L lv)
instance records_persistent (K : Dev nD × CK → ℕ) : BI.Persistent (records m K) := by unfold records; infer_instance

theorem inv_at (K : Dev nD × CK → ℕ) (c : Dev nD) (k : CK) {g : GSem nD τ sig} (hg : cell c k = g) : records m K ⊢ cellInv ER (Rd m) (K (c, k)) g := by
  subst hg
  unfold records
  iintro ⟨HI, -, -⟩
  iapply (show (bigSep Finset.univ fun x : Dev nD × CK => cellInv ER (Rd m) (K x) (kcell x) : sProp 𝕄) ⊢ cellInv ER (Rd m) (K (c, k)) (kcell (c, k)) from
    bigSep_elim (Finset.mem_univ (c, k)))
  iexact HI
theorem reached_at (K : Dev nD × CK → ℕ) (c : Dev nD) (k : CK) {g : GSem nD τ sig} (hg : cell c k = g) : records m K ⊢ reached ER g 0 := by
  subst hg
  unfold records
  iintro ⟨-, HR, -⟩
  iapply (show (bigSep Finset.univ fun x : Dev nD × CK => reached ER (kcell x) 0 : sProp 𝕄) ⊢ reached ER (kcell (c, k)) 0 from
    bigSep_elim (Finset.mem_univ (c, k)))
  iexact HR
theorem lev_at (K : Dev nD × CK → ℕ) : records m K ⊢ levAts L lv := by
  unfold records
  iintro ⟨-, -, H⟩
  iexact H

/-- What device `c` still owes. -/
def Owe (c : Dev nD) (l : List CK) : sProp 𝕄 := iprop(∃ W, owes (c : Thread nD τ) (owedL c l) W)

/-! ## A loop -/

theorem wp_loop (c : Dev nD) (f : Fin 8 → Prog (TpuEff nD τ sig (Elt F) Λ₀ .tc) PUnit) (T : List (Fin 8) → sProp 𝕄) (P R : Fin 8 → sProp 𝕄)
    (h : ∀ j l, iprop(T (j :: l) ∗ P j) ⊢ WP c (f j) fun _ => iprop(T l ∗ R j)) :
    ∀ l, iprop(T l ∗ bigSepL l P) ⊢ WP c (loop f l) fun _ => iprop(T [] ∗ bigSepL l R)
  | [] => by
    unfold loop WP
    rw [Prog.pure_eq_ret, wp_ret]
    iintro ⟨HT, HP⟩
    imodintro
    isplitl [HT]; · iexact HT
    iexact HP
  | j :: l => by
    rw [bigSepL_cons', bigSepL_cons']
    unfold loop WP
    rw [wp_bind]
    refine BIBase.Entails.trans ?_ ((wp_frame_r _ _ _ (Q := fun _ => iprop(T l ∗ R j)) (R := bigSepL l P)).trans (wp_mono _ _ _ fun _ => ?_))
    · iintro ⟨HT, HP, HL⟩
      isplitl [HT HP]
      · iapply (h j l); isplitl [HT] <;> iassumption
      · iexact HL
    · refine BIBase.Entails.trans ?_ (((sep_mono_left (wp_loop c f T P R h l)).trans (wp_frame_r _ _ _ (R := R j))).trans (wp_mono _ _ _ fun _ => ?_))
      · iintro ⟨⟨HT, HR⟩, HL⟩
        isplitl [HT HL]
        · isplitl [HT] <;> iassumption
        · iexact HR
      · iintro ⟨⟨HT, HL⟩, HR⟩
        isplitl [HT]; · iexact HT
        isplitl [HR] <;> iassumption

/-! ## One step after another -/

theorem wp_then {c : Dev nD} {p : Prog (TpuEff nD τ sig (Elt F) Λ₀ .tc) PUnit} {A B : sProp 𝕄} (h : A ⊢ WP c p fun _ => B)
    {α : Type} {k : PUnit → Prog (TpuEff nD τ sig (Elt F) Λ₀ .tc) α} {Q : α → sProp 𝕄} :
    A ⊢ iprop((B -∗ WP c (k ⟨⟩) Q) -∗ WP c (p >>= k) Q) := by
  refine BI.wand_intro ?_
  unfold WP at *
  rw [wp_bind]
  exact (sep_mono_left h).trans ((wp_frame_r _ _ _).trans (wp_mono _ _ _ fun _ => wand_elim_right))

theorem wp_last {c : Dev nD} {p : Prog (TpuEff nD τ sig (Elt F) Λ₀ .tc) PUnit} {A B : sProp 𝕄} (h : A ⊢ WP c p fun _ => B) {Q : PUnit → sProp 𝕄} :
    A ⊢ iprop((B -∗ Q ⟨⟩) -∗ WP c p Q) := by
  refine BI.wand_intro ?_
  unfold WP at *
  exact (sep_mono_left h).trans ((wp_frame_r _ _ _).trans (wp_mono _ _ _ fun _ => wand_elim_right))

/-! ## Signals and waits -/

theorem wp_signal_cell (K : Dev nD × CK → ℕ) (c n : Dev nD) (k : CK) {sem : Sem sig} (hsem : csem k = .reg sem) (hn : n = tgt k c) (hamt : amt k = 1) (l : List CK) :
    iprop(records m K ∗ Owe c (k :: l) ∗ dutyTok ER (cell (tgt k c) k) 0 () ∗ pay m (tgt k c) k)
      ⊢ WP c (semSignalWord n sem 1#32) fun _ => Owe c l := by
  subst hn
  have hd : () ∈ (Rd (F := F) m).duties ((tgt k c : Thread nD τ), .reg sem) 0 := by
    rw [← hsem]; rw [show (Rd (F := F) m).duties ((tgt k c : Thread nD τ), csem k) 0 = {()} from duties_cell m _ k]; exact Finset.mem_singleton_self _
  have ha : (Rd (F := F) m).amount ((tgt k c : Thread nD τ), .reg sem) 0 () = 1 := by
    rw [← hsem]; exact (amount_cell m (tgt k c) k ()).trans hamt
  have hp : pay m (tgt k c) k = (Rd (F := F) m).payload ((tgt k c : Thread nD τ), .reg sem) 0 () := by
    rw [← hsem]; exact (payload_cell m (tgt k c) k ()).symm
  have hc : cell (tgt k c) k = ((tgt k c : Thread nD τ), .reg sem) := by rw [← hsem]
  have hO : owedL c (k :: l) = owedL c l + tallyAt ((tgt k c : Thread nD τ), .reg sem) () 1 := by
    rw [← hsem]; show owedL c l + tallyAt _ () (amt k) = _; rw [hamt]
  unfold Owe WP
  rw [hp, hc]
  simp only [semSignalWord, Prog.lift]
  rw [show (1#32).toInt = ((1 : ℕ) : ℤ) by decide]
  iintro ⟨#Hrec, ⟨%W, HO⟩, Ht, Hp⟩
  ihave #HI := (inv_at m K (tgt k c) k hc) $$ Hrec
  ihave #HR := (reached_at m K (tgt k c) k hc) $$ Hrec
  iapply (Rounds.wp_signal 𝒱₀ ER (Rd m) (c : Thread nD τ) none (dst := (tgt k c : Thread nD τ)) (κ := K (tgt k c, k)) hd ha () (owedL c l) hO) $$ [HO Ht Hp]
  · isplitr; · iexact HI
    isplitl [HO]; · iexact HO
    isplitl [Ht]; · iexact Ht
    isplitl [Hp]; · iexact Hp
    iexact HR
  iintro HO
  rw [wp_ret]; imodintro
  iexists W; iexact HO

theorem wp_wait_cell (K : Dev nD × CK → ℕ) (c : Dev nD) (k : CK) (l : List CK) (hl : ∀ k' ∈ l, lvk k < lvk k')
    {w : TpuEff nD τ sig (Elt F) Λ₀ .tc PUnit} {k' : ℕ} (hk : k' = amt k)
    (hw : ∀ Q : PUnit → sProp 𝕄, wpE (defs₀ (F := F)) 𝒱₀ (c : Thread nD τ) none Set.univ w Q = waitSpec (c : Thread nD τ) Set.univ (csem k) k' Q) :
    iprop(records m K ∗ Owe c l ∗ cred (tallyAt (cell c k) () (amt k)) ∗ atPos ER (cell c k) 0 ∅ 0)
      ⊢ WP c (Prog.lift w) fun _ => iprop(Owe c l ∗ semVal (cell c k) 0 ∗ pay m c k) := by
  subst hk
  unfold Owe WP
  iintro ⟨#Hrec, ⟨%W, HO⟩, Hc, Hat⟩
  ihave #HI := (inv_at m K c k rfl) $$ Hrec
  simp only [Prog.lift]
  iapply (Rounds.wp_wait_rest_token 𝒱₀ ER (Rd m) (c : Thread nD τ) none (κ := K (c, k))
      hw (Set.mem_univ _) () (O := owedL c l) (W := W) (R := 0) (m := 0) (T := ∅)
      (by rw [Nat.zero_add]; exact (expect_cell m c k).symm)) $$ [Hc HO Hat]
  · isplitr; · iexact HI
    isplitl [Hc]; · iexact Hc
    isplitl [HO]; · iexact HO
    isplitr
    · iapply (mayWait c (csem k) l (fun k' hk' => by rw [lv_cell]; exact hl k' hk'))
      iapply (lev_at m K); iexact Hrec
    iexact Hat
  iintro ⟨HO, Hat, -, Hpay⟩
  ihave Hp := (Entails.of_eq (rest_cell m c k)) $$ Hpay
  imod (Rounds.cell_close ER (Rd m) (Set.mem_univ (K (c, k))) (fun h => h) (R := 0 + 1) (duties_later m (cell c k))) $$ [Hat] with Hz
  · isplitr; · iexact HI
    iexact Hat
  rw [wp_ret]; imodintro
  isplitl [HO]; · iexists _; iexact HO
  isplitl [Hz]; · iexact Hz
  iexact Hp

/-! ## What the memory operations read and write -/

/-- A copy leaves the elements under its destination as they were under its source. -/
theorem write_read_self {κ : Kind} {sp : Space} {s : Shape} {e : EltTy} (v : View sig κ sp s e) (f g : v.ty.Contents (Elt F)) {i : v.ty.Idx} (hi : i ∈ v.set) :
    v.write (Elt F) f (v.read (Elt F) g) Finset.univ i = g i := by
  obtain ⟨x, -, rfl⟩ := Finset.mem_map.mp hi
  rw [View.write_emb_of_mem _ _ (Finset.mem_univ x), View.read_apply, cast_cast, cast_eq]

theorem sent_eq (c : Dev nD) (j : Fin 8) (b : Bool) (fd : Buf (Elt F) ((head (dstM b) j).view.loc (ypeer c : Thread nD τ))) :
    ∀ i ∈ (head (dstM b) j).view.set,
      (head (dstM b) j).view.write (Elt F) fd ((head (srcM b) j).view.read (Elt F) (kvSrc m c b)) Finset.univ i = kvDst m (ypeer c) b i := by
  intro i hi
  obtain ⟨x, -, rfl⟩ := Finset.mem_map.mp hi
  rw [View.write_emb_of_mem _ _ (Finset.mem_univ x), View.read_apply, cast_cast]
  cases b
  · show _ = kVal m (ypeer (ypeer c)) _
    rw [ypeer_ypeer]; rfl
  · show _ = vVal m (ypeer (ypeer c)) _
    rw [ypeer_ypeer]; rfl

theorem oset_eq (d : Dev nD) (j : Fin 8) : (ohead d j).view.set = (orowR d j).set := by
  show (((View.whole cc0_stg3_0).slice (orow' d j)).reshape _ _).set = _
  rw [View.set_reshape, View.set_slice_whole]
  exact congrArg (fun r : Rect S16x64x512 => r.set) (orow'_eq d j)

theorem access_out_eq (c d : Dev nD) (hd : d.val % 2 = c.val % 2) (j : Fin 8) {off : Fin 3 → ℕ} (inb : ∀ a, off a + S1x64x512.size a ≤ S16x64x512.size a)
    (h : off = ![8 * (d.val / 2) + j.val, 0, 0]) (f : Buf (Elt F) (outM.view.loc (c : Thread nD τ))) :
    ∀ i ∈ (ohead d j).view.set,
      (outM.access (Rect.unit (s := S16x64x512) off S1x64x512.size inb)).write (Elt F) f (outRow m d j) Finset.univ i = outv m c i := by
  subst h
  intro i hi
  rw [oset_eq] at hi
  rw [← Rect.map_emb_univ] at hi
  obtain ⟨x, -, rfl⟩ := Finset.mem_map.mp hi
  refine (View.write_emb_of_mem (v := outM.access (orowR d j)) f (outRow m d j) (Finset.mem_univ x)).trans ?_
  rw [outv_emb m c d hd]; rfl

theorem access_out_sub (d : Dev nD) (j : Fin 8) {off : Fin 3 → ℕ} (inb : ∀ a, off a + S1x64x512.size a ≤ S16x64x512.size a)
    (h : off = ![8 * (d.val / 2) + j.val, 0, 0]) :
    (outM.access (Rect.unit (s := S16x64x512) off S1x64x512.size inb)).set ⊆ (ohead d j).view.set := by
  subst h
  rw [oset_eq]
  exact (View.set_slice_whole cc0_stg3_0 (orowR d j)).le

end Cert.Attn

end
-- ==== Proof.Phases.lean ====
/-
# The kernel's phases

The triple of each step of the body over the buffers it touches: an array brought in, a head's copy sent, a head against the
device's own keys, a head against the partner's.
-/
module

public import proofs.«01_k».proof.Proof.Steps

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The arrays brought in -/

theorem hz3 : (![0, 0, 0] : Fin 3 → ℕ) = fun _ => 0 := funext fun a => by fin_cases a <;> rfl

theorem wp_prep (c : Dev nD) (A : Memref sig .tc .vmem S2x512x8x64 .bf16) (M : Memref sig .tc .vmem S8x64x512 .bf16) (hM : M.IsWhole)
    (pay : Vec F S1x512x8x64 .bf16 → FVec F S8x64x512 .bf16) (f : Buf (Elt F) (A.view.loc (c : Thread nD τ))) (v : Buf (Elt F) (M.view.loc (c : Thread nD τ)))
    (hw : ∀ g, (M.access all8).write (Elt F) g (pay (A.view.readAt (Elt F) (batch c).toLoadRect f)) Finset.univ = v) :
    iprop((A.view.loc (c : Thread nD τ) ↦{fullShare} f) ∗ ∃ g, M.view.loc (c : Thread nD τ) ↦{fullShare} g)
      ⊢ WP c (prepStep c A M hM pay) fun _ => iprop((A.view.loc (c : Thread nD τ) ↦{fullShare} f) ∗ M.view.loc (c : Thread nD τ) ↦{fullShare} v) := by
  unfold prepStep WP
  simp only [Prog.lift, Prog.bind_op, Prog.bind_ret, Prog.pure_eq_ret]
  iintro ⟨HA, ⟨%g, HM⟩⟩
  iapply (wp_load 𝒱₀ (c : Thread nD τ) none Set.univ (m := A) (Finset.subset_univ _)) $$ HA; iintro HA
  iapply (wp_load 𝒱₀ (c : Thread nD τ) none Set.univ (m := M) (Finset.subset_univ _)) $$ HM; iintro HM
  iapply (wp_store 𝒱₀ (c : Thread nD τ) none Set.univ (m := M) (r := all8) (Mk := Finset.univ) (Finset.subset_univ _)) $$ HM; iintro HM
  rw [hw, wp_ret]; imodintro
  isplitl [HA]; · iexact HA
  iexact HM

/-! ## A store's result inside and outside its rectangle -/

theorem whole_write_mem (b : Ref sig .tc) (r : Rect b.ty.shape) (f : b.ty.Contents (Elt F)) (w : r.shape.Idx → Elt F b.ty.elt) (x : r.shape.Idx) :
    ((Memref.whole b).access r : View sig .tc _ _ _).write (Elt F) f w Finset.univ (r.emb x) = w x :=
  View.write_emb_of_mem (v := ((Memref.whole b).access r : View sig .tc _ _ _)) f w (Finset.mem_univ x)
theorem whole_write_not_mem (b : Ref sig .tc) (r : Rect b.ty.shape) (f : b.ty.Contents (Elt F)) (w : r.shape.Idx → Elt F b.ty.elt) (i : b.ty.Idx)
    (h : i ∉ r.set) : ((Memref.whole b).access r : View sig .tc _ _ _).write (Elt F) f w Finset.univ i = f i :=
  View.write_of_not_mem (v := ((Memref.whole b).access r : View sig .tc _ _ _)) f w Finset.univ
    (by rwa [View.setOn_univ, show ((Memref.whole b).access r : View sig .tc _ _ _).set = r.set from View.set_slice_whole b r])

/-! ## A head's copy sent -/

theorem dst_credit (b : Bool) (j : Fin 8) : (head (dstM b) j).view.dmaCredit = N := by cases b <;> rfl
theorem src_credit (b : Bool) (j : Fin 8) : (head (srcM b) j).view.dmaCredit = N := by cases b <;> rfl
theorem out_credit (c : Dev nD) (j : Fin 8) : (ohead c j).view.dmaCredit = N := rfl

/-- A copy to device `p`: it pays `c`'s cell `kS` with what was read and `p`'s cell `kR` with what was written. -/
theorem wp_copy (K : Dev nD × CK → ℕ) (c n p : Dev nD) (hn : n = p) (kS kR : CK) (hp : tgt kR c = p) (l : List CK)
    {s : Shape} {e : EltTy} (src dst : Memref sig .tc .vmem s e)
    {hsc : dst.view.ref.isScScratch = false} {hsrc : src.view.WordExact} {hdst : dst.view.WordExact}
    {hsem : DmaTarget.Typed .vmem (csem kR) (.remote (Dev.tc n : Thread nD τ) dst (csem kS) hsc)}
    (hN : dst.view.amount (csem kR) = N) (hS : amt kS = N) (hR : amt kR = N) {q : PosShare TreeShare}
    {fs : Buf (Elt F) (src.view.loc (c : Thread nD τ))} {fd : Buf (Elt F) (dst.view.loc (p : Thread nD τ))}
    (hpay₁ : (src.view.loc (c : Thread nD τ) ↦[src.view.set]{q} fs) ⊢ pay m c kS)
    (hpay₂ : (dst.view.loc (p : Thread nD τ) ↦[dst.view.set]{fullShare} (dst.view.write (Elt F) fd (src.view.read (Elt F) fs) Finset.univ)) ⊢ pay m p kR)
    {α : Type} {k : PUnit → Prog (TpuEff nD τ sig (Elt F) Λ₀ .tc) α} {Q : α → sProp 𝕄} :
    iprop(records m K ∗ Owe c (kR :: l) ∗ (src.view.loc (c : Thread nD τ) ↦[src.view.set]{q} fs) ∗ (dst.view.loc (p : Thread nD τ) ↦[dst.view.set]{fullShare} fd)
        ∗ dutyTok ER (cell c kS) 0 () ∗ dutyTok ER (cell p kR) 0 ())
      ⊢ iprop(((Owe c l ∗ cred (tallyAt (cell c kS) () N)) -∗ WP c (k ⟨⟩) Q)
          -∗ WP c (.op (.enqueueDma src (.remote (Dev.tc n : Thread nD τ) dst (csem kS) hsc) (csem kR) hsrc hdst hsem) k) Q) := by
  subst hn
  unfold Owe WP
  iintro ⟨#Hrec, ⟨%W, HO⟩, Hs, Hd, HtS, HtR⟩ Hk
  ihave #HI1 := (inv_at m K c kS rfl) $$ Hrec
  ihave #HI2 := (inv_at m K n kR rfl) $$ Hrec
  ihave #HR1 := (reached_at m K c kS rfl) $$ Hrec
  ihave #HR2 := (reached_at m K n kR rfl) $$ Hrec
  iapply (Rounds.wp_send_pointsTo 𝒱₀ ER (Rd m) (c : Thread nD τ) none (κ₁ := K (c, kS)) (κ₂ := K (n, kR))
    (c' := (n : Thread nD τ)) (src := src) (dst := dst) (sS := csem kS) (sem := csem kR)
    (r₁ := 0) (r₂ := 0) (d₁ := ()) (d₂ := ()) (q := q) (fs := fs) (fd := fd)
    (by rw [duties_cell m c kS]; exact Finset.mem_singleton_self _) (by rw [duties_cell m n kR]; exact Finset.mem_singleton_self _)
    () () N hN ((amount_cell m c kS ()).trans hS) ((amount_cell m n kR ()).trans hR) (O₀ := owedL c (kR :: l)) (owedL c l)
    (by show owedL c l + tallyAt (cell (tgt kR c) kR) () (amt kR) = _; rw [hp, hR]) (W := W)
    (by rw [payload_cell m c kS]; exact hpay₁)
    (by rw [payload_cell m n kR]; exact hpay₂)) $$ [Hs Hd HO HtS HtR]
  · isplitr; · iexact HI1
    isplitr; · iexact HI2
    isplitl [Hs]; · iexact Hs
    isplitl [Hd]; · iexact Hd
    isplitl [HO]; · iexact HO
    isplitl [HtS]; · iexact HtS
    isplitr; · iexact HR1
    isplitl [HtR]; · iexact HtR
    iexact HR2
  iintro ⟨Hc, HO⟩
  iapply Hk
  isplitl [HO]; · iexists W; iexact HO
  iexact Hc

/-- The same, as the last thing done. -/
theorem wp_copy_last (K : Dev nD × CK → ℕ) (c n p : Dev nD) (hn : n = p) (kS kR : CK) (hp : tgt kR c = p) (l : List CK)
    {s : Shape} {e : EltTy} (src dst : Memref sig .tc .vmem s e)
    {hsc : dst.view.ref.isScScratch = false} {hsrc : src.view.WordExact} {hdst : dst.view.WordExact}
    {hsem : DmaTarget.Typed .vmem (csem kR) (.remote (Dev.tc n : Thread nD τ) dst (csem kS) hsc)}
    (hN : dst.view.amount (csem kR) = N) (hS : amt kS = N) (hR : amt kR = N) {q : PosShare TreeShare}
    {fs : Buf (Elt F) (src.view.loc (c : Thread nD τ))} {fd : Buf (Elt F) (dst.view.loc (p : Thread nD τ))}
    (hpay₁ : (src.view.loc (c : Thread nD τ) ↦[src.view.set]{q} fs) ⊢ pay m c kS)
    (hpay₂ : (dst.view.loc (p : Thread nD τ) ↦[dst.view.set]{fullShare} (dst.view.write (Elt F) fd (src.view.read (Elt F) fs) Finset.univ)) ⊢ pay m p kR) :
    iprop(records m K ∗ Owe c (kR :: l) ∗ (src.view.loc (c : Thread nD τ) ↦[src.view.set]{q} fs) ∗ (dst.view.loc (p : Thread nD τ) ↦[dst.view.set]{fullShare} fd)
        ∗ dutyTok ER (cell c kS) 0 () ∗ dutyTok ER (cell p kR) 0 ())
      ⊢ WP c (Prog.lift (.enqueueDma src (.remote (Dev.tc n : Thread nD τ) dst (csem kS) hsc) (csem kR) hsrc hdst hsem))
          fun _ => iprop(Owe c l ∗ cred (tallyAt (cell c kS) () N)) := by
  iintro H
  iapply (wp_copy m K c n p hn kS kR hp l src dst hN hS hR hpay₁ hpay₂) $$ H
  iintro H
  unfold WP
  rw [wp_ret]; imodintro
  iexact H

theorem wp_sendStep_at (K : Dev nD × CK → ℕ) (c : Dev nD) (j : Fin 8) (b : Bool) (l : List CK) (fd : Buf (Elt F) ((dstM b).view.loc (ypeer c : Thread nD τ))) :
    iprop(records m K ∗ Owe c (kvR (j, b) :: l) ∗ srcPts m c (j, b) ∗ dstPts (ypeer c) (j, b) fd
        ∗ dutyTok ER (cell c (kvS (j, b))) 0 () ∗ dutyTok ER (cell (ypeer c) (kvR (j, b))) 0 ())
      ⊢ WP c (sendStep c j b) fun _ => iprop(Owe c l ∗ cred (tallyAt (cell c (kvS (j, b))) () N)) := by
  exact wp_copy_last m K c (⟨k0_dev2 c, k0_dev2_lt c⟩ : Dev nD) (ypeer c) (dev2_eq c) (kvS (j, b)) (kvR (j, b)) rfl l (head (srcM b) j) (head (dstM b) j) (dst_credit b j) rfl rfl
    BIBase.Entails.rfl (Entails.of_eq (pointsTo_congr (sent_eq m c j b fd)))

theorem wp_sendStep (K : Dev nD × CK → ℕ) (c : Dev nD) (x : Fin 8 × Bool) (l : List CK) :
    iprop(records m K ∗ Owe c (kvR x :: l) ∗ srcPts m c x ∗ (∃ f, dstPts (ypeer c) x f)
        ∗ dutyTok ER (cell c (kvS x)) 0 () ∗ dutyTok ER (cell (ypeer c) (kvR x)) 0 ())
      ⊢ WP c (sendStep c x.1 x.2) fun _ => iprop(Owe c l ∗ cred (tallyAt (cell c (kvS x)) () N)) := by
  obtain ⟨j, b⟩ := x
  iintro ⟨Hrec, HO, Hs, ⟨%fd, Hd⟩, HtS, HtR⟩
  iapply (wp_sendStep_at m K c j b l fd)
  isplitl [Hrec]; · iexact Hrec
  isplitl [HO]; · iexact HO
  isplitl [Hs]; · iexact Hs
  isplitl [Hd]; · iexact Hd
  isplitl [HtS]; · iexact HtS
  iexact HtR

/-! ## A head against the device's own keys -/

/-- The half of the device's own keys or values that stays for its own loads. -/
def kvHalf (c : Dev nD) (b : Bool) : sProp 𝕄 := (srcM b).view.loc (c : Thread nD τ) ↦{fullShare.left} kvSrc m c b
def qPts (c : Dev nD) : sProp 𝕄 := qM.view.loc (c : Thread nD τ) ↦{fullShare} qVal m c
/-- The local sums, in place for every head but those still to do. -/
def laccPts (c : Dev nD) (l : List (Fin 8)) : sProp 𝕄 :=
  iprop(∃ f : Buf (Elt F) (laccM.view.loc (c : Thread nD τ)), ⌜∀ i, i ∉ l → headL f i = lLoc m c i⌝ ∗ laccM.view.loc (c : Thread nD τ) ↦{fullShare} f)
def oaccPts (c : Dev nD) (l : List (Fin 8)) : sProp 𝕄 :=
  iprop(∃ f : Buf (Elt F) (oaccM.view.loc (c : Thread nD τ)), ⌜∀ i, i ∉ l → headOf f i = oLoc m c i⌝ ∗ oaccM.view.loc (c : Thread nD τ) ↦{fullShare} f)

theorem not_mem_row (i j : Fin 8) (h : i ≠ j) (x : S1x64x512.Idx) : (row8 i).emb x ∉ (row8 j).set := fun hm => by
  have h0 := Rect.mem_set_unit.mp hm 0
  have hx : (x 0).val < 1 := (x 0).isLt
  have he : ((row8 i).emb x 0).val = i.val + 1 * (x 0).val := rfl
  have h1 : j.val ≤ ((row8 i).emb x 0).val := h0.1
  have h2 : ((row8 i).emb x 0).val < j.val + 1 := h0.2
  exact h (Fin.ext (by omega))
theorem not_mem_rowL (i j : Fin 8) (h : i ≠ j) (x : S1x512.Idx) : (rowL i).emb x ∉ (rowL j).set := fun hm => by
  have h0 := Rect.mem_set_unit.mp hm 0
  have hx : (x 0).val < 1 := (x 0).isLt
  have he : ((rowL i).emb x 0).val = i.val + 1 * (x 0).val := rfl
  have h1 : j.val ≤ ((rowL i).emb x 0).val := h0.1
  have h2 : ((rowL i).emb x 0).val < j.val + 1 := h0.2
  exact h (Fin.ext (by omega))

theorem headL_write (j i : Fin 8) (f : Vec F S8x512 .f32) (w : Vec F S1x512 .f32) :
    headL ((laccM.access (rowL j)).write (Elt F) f w Finset.univ) i = if i = j then w else headL f i := by
  by_cases h : i = j
  · subst h; rw [if_pos rfl]; unfold headL
    exact funext fun x => whole_write_mem cc0_scratch6 (rowL i) f w x
  · rw [if_neg h]; unfold headL
    exact funext fun x => whole_write_not_mem cc0_scratch6 (rowL j) f w _ (not_mem_rowL i j h x)
theorem headOf_write (j i : Fin 8) (f : Vec F S8x64x512 .f32) (w : Vec F S1x64x512 .f32) :
    headOf ((oaccM.access (row8 j)).write (Elt F) f w Finset.univ) i = if i = j then w else headOf f i := by
  by_cases h : i = j
  · subst h; rw [if_pos rfl]; unfold headOf
    exact funext fun x => whole_write_mem cc0_scratch5 (row8 i) f w x
  · rw [if_neg h]; unfold headOf
    exact funext fun x => whole_write_not_mem cc0_scratch5 (row8 j) f w _ (not_mem_row i j h x)

/-- What the local loop holds. -/
def localInv (c : Dev nD) (l : List (Fin 8)) : sProp 𝕄 := iprop(kvHalf m c false ∗ kvHalf m c true ∗ qPts m c ∗ laccPts m c l ∗ oaccPts m c l)

theorem wp_localStep (c : Dev nD) (j : Fin 8) (l : List (Fin 8)) :
    localInv m c (j :: l) ⊢ WP c (localStep j) fun _ => localInv m c l := by
  unfold localInv kvHalf qPts laccPts oaccPts localStep WP
  simp only [Prog.lift, Prog.bind_op, Prog.bind_ret, Prog.pure_eq_ret]
  iintro ⟨Hk, Hv, Hq, ⟨%f, %hf, Hl⟩, ⟨%g, %hg, Ho⟩⟩
  iapply (wp_load 𝒱₀ (c : Thread nD τ) none Set.univ (m := srcM false) (Finset.subset_univ _)) $$ Hk; iintro Hk
  iapply (wp_load 𝒱₀ (c : Thread nD τ) none Set.univ (m := qM) (Finset.subset_univ _)) $$ Hq; iintro Hq
  iapply (wp_load 𝒱₀ (c : Thread nD τ) none Set.univ (m := srcM true) (Finset.subset_univ _)) $$ Hv; iintro Hv
  iapply (wp_load 𝒱₀ (c : Thread nD τ) none Set.univ (m := laccM) (Finset.subset_univ _)) $$ Hl; iintro Hl
  iapply (wp_store 𝒱₀ (c : Thread nD τ) none Set.univ (m := laccM) (r := rowL j) (Mk := Finset.univ) (Finset.subset_univ _)) $$ Hl; iintro Hl
  iapply (wp_load 𝒱₀ (c : Thread nD τ) none Set.univ (m := oaccM) (Finset.subset_univ _)) $$ Ho; iintro Ho
  iapply (wp_store 𝒱₀ (c : Thread nD τ) none Set.univ (m := oaccM) (r := row8 j) (Mk := Finset.univ) (Finset.subset_univ _)) $$ Ho; iintro Ho
  rw [wp_ret]; imodintro
  isplitl [Hk]; · iexact Hk
  isplitl [Hv]; · iexact Hv
  isplitl [Hq]; · iexact Hq
  isplitl [Hl]
  · iexists _; isplitr
    rotate_left
    · iexact Hl
    ipureintro
    intro i hi
    refine (headL_write j i f _).trans ?_
    by_cases h : i = j
    · subst h; rw [if_pos rfl]; rfl
    · rw [if_neg h]; exact hf i fun hm => (List.mem_cons.mp hm).elim h hi
  · iexists _; isplitr
    rotate_left
    · iexact Ho
    ipureintro
    intro i hi
    refine (headOf_write j i g _).trans ?_
    by_cases h : i = j
    · subst h; rw [if_pos rfl]; rfl
    · rw [if_neg h]; exact hg i fun hm => (List.mem_cons.mp hm).elim h hi

/-! ## A head against the partner's keys -/

theorem dst_sub (b : Bool) (j : Fin 8) : ((dstM b).access (row8 j)).set ⊆ (head (dstM b) j).view.set :=
  (View.set_reshape ((dstM b).access (row8 j)) _).ge

/-- What the second loop holds. -/
def remoteInv (c : Dev nD) : sProp 𝕄 := iprop(qPts m c ∗ laccPts m c [] ∗ oaccPts m c [])

theorem read_dstK (c : Dev nD) (j : Fin 8) : ((dstM false).access (row8 j)).read (Elt F) (kvDst m c false) = headOf (kVal m (ypeer c)) j := by
  unfold headOf; rfl
theorem read_dstV (c : Dev nD) (j : Fin 8) : ((dstM true).access (row8 j)).read (Elt F) (kvDst m c true) = headOf (vVal m (ypeer c)) j := by
  unfold headOf; rfl
theorem read_q (c : Dev nD) (j : Fin 8) : qM.view.readAt (Elt F) (row8 j).toLoadRect (qVal m c) = headOf (qVal m c) j := by
  unfold headOf; rfl
theorem read_oacc (g : Vec F S8x64x512 .f32) (j : Fin 8) : oaccM.view.readAt (Elt F) (row8 j).toLoadRect g = headOf g j := by
  unfold headOf; rfl
theorem read_lacc (f : Vec F S8x512 .f32) (j : Fin 8) : laccM.view.readAt (Elt F) (rowL j).toLoadRect f = headL f j := by
  unfold headL; rfl

theorem headOut_eq (c : Dev nD) (j : Fin 8) (f : Vec F S8x512 .f32) (g : Vec F S8x64x512 .f32) (hf : headL f j = lLoc m c j) (hg : headOf g j = oLoc m c j) :
    headOut (F := F) (((dstM false).access (row8 j)).read (Elt F) (kvDst m c false)) (qM.view.readAt (Elt F) (row8 j).toLoadRect (qVal m c))
      (((dstM true).access (row8 j)).read (Elt F) (kvDst m c true)) (oaccM.view.readAt (Elt F) (row8 j).toLoadRect g) (laccM.view.readAt (Elt F) (rowL j).toLoadRect f)
      = outRow m c j := by
  rw [read_dstK, read_dstV, read_q, read_oacc, read_lacc, hf, hg]; unfold outRow; rfl

/-- What the store of a head's result leaves in its rows. -/
theorem stored_eq (c : Dev nD) (j : Fin 8) (fs : Buf (Elt F) (outM.view.loc (c : Thread nD τ))) (w : Vec F S1x64x512 .bf16) (hw : w = outRow m c j) :
    ((ohead c j).view.loc (c : Thread nD τ) ↦[(ohead c j).view.set]{fullShare} ((outM.access (orow c j)).write (Elt F) fs w Finset.univ) : sProp 𝕄)
      ⊢ ((ohead c j).view.loc (c : Thread nD τ) ↦[(ohead c j).view.set]{fullShare} outv m c) := by
  subst hw
  exact Entails.of_eq (pointsTo_congr (access_out_eq m c c rfl j _ (k0_off2_eq c j) fs))

theorem wp_headStep (c : Dev nD) (j : Fin 8) (fs : Buf (Elt F) (outM.view.loc (c : Thread nD τ))) :
    iprop(remoteInv m c ∗ dstPts c (j, false) (kvDst m c false) ∗ dstPts c (j, true) (kvDst m c true) ∗ outPts c c j fs)
      ⊢ WP c (headStep c j) fun _ => iprop(remoteInv m c ∗ dstPts c (j, false) (kvDst m c false) ∗ dstPts c (j, true) (kvDst m c true)
          ∗ outPts c c j (outv m c)) := by
  unfold remoteInv qPts laccPts oaccPts dstPts headStep WP
  simp only [Prog.lift, Prog.bind_op, Prog.bind_ret, Prog.pure_eq_ret]
  iintro ⟨⟨Hq, ⟨%f, %hf, Hl⟩, ⟨%g, %hg, Ho⟩⟩, Hk, Hv, Hs⟩
  iapply (wp_load_rect 𝒱₀ (c : Thread nD τ) none Set.univ (m := dstM false) (r := row8 j) (dst_sub false j)) $$ Hk; iintro Hk
  iapply (wp_load 𝒱₀ (c : Thread nD τ) none Set.univ (m := qM) (Finset.subset_univ _)) $$ Hq; iintro Hq
  iapply (wp_load_rect 𝒱₀ (c : Thread nD τ) none Set.univ (m := dstM true) (r := row8 j) (dst_sub true j)) $$ Hv; iintro Hv
  iapply (wp_load 𝒱₀ (c : Thread nD τ) none Set.univ (m := oaccM) (Finset.subset_univ _)) $$ Ho; iintro Ho
  iapply (wp_load 𝒱₀ (c : Thread nD τ) none Set.univ (m := laccM) (Finset.subset_univ _)) $$ Hl; iintro Hl
  unfold outPts
  iapply (wp_load_rect 𝒱₀ (c : Thread nD τ) none Set.univ (m := outM) (r := orow c j) (access_out_sub c j _ (k0_off2_eq c j))) $$ Hs; iintro Hs
  iapply (wp_store 𝒱₀ (c : Thread nD τ) none Set.univ (m := outM) (r := orow c j) (Mk := Finset.univ) (access_out_sub c j _ (k0_off2_eq c j))) $$ Hs; iintro Hs
  rw [wp_ret]; imodintro
  isplitl [Hq Hl Ho]
  · isplitl [Hq]; · iexact Hq
    isplitl [Hl]
    · iexists f; isplitr; · ipureintro; exact hf
      iexact Hl
    · iexists g; isplitr; · ipureintro; exact hg
      iexact Ho
  isplitl [Hk]; · iexact Hk
  isplitl [Hv]; · iexact Hv
  iapply (stored_eq m c j fs _ (headOut_eq m c j f g (hf j List.not_mem_nil) (hg j List.not_mem_nil)))
  iexact Hs

theorem wp_outStep (K : Dev nD × CK → ℕ) (c : Dev nD) (j : Fin 8) (l : List CK) (fd : Buf (Elt F) (outM.view.loc (xpeer c : Thread nD τ))) :
    iprop(records m K ∗ Owe c (oR j :: l) ∗ outPts c c j (outv m c) ∗ outPts (xpeer c) c j fd ∗ dutyTok ER (cell c (oS j)) 0 () ∗ dutyTok ER (cell (xpeer c) (oR j)) 0 ())
      ⊢ WP c (outStep c j) fun _ => iprop(Owe c l ∗ cred (tallyAt (cell c (oS j)) () N)) :=
  wp_copy_last m K c (⟨k0_dev19 c, k0_dev19_lt c⟩ : Dev nD) (xpeer c) (dev19_eq c) (oS j) (oR j) rfl l (ohead c j) (ohead c j) (out_credit c j) rfl rfl
    BIBase.Entails.rfl (by
      dsimp only [pay]; rw [xpeer_xpeer, outv_xpeer]
      exact Entails.of_eq (pointsTo_congr fun i hi => write_read_self (ohead c j).view fd (outv m c) hi))

theorem wp_remoteStep (K : Dev nD × CK → ℕ) (c : Dev nD) (j : Fin 8) (l : List CK) :
    iprop(records m K ∗ Owe c (oR j :: l) ∗ remoteInv m c ∗ dstPts c (j, false) (kvDst m c false) ∗ dstPts c (j, true) (kvDst m c true)
        ∗ (∃ f, outPts c c j f) ∗ (∃ f, outPts (xpeer c) c j f) ∗ dutyTok ER (cell c (oS j)) 0 () ∗ dutyTok ER (cell (xpeer c) (oR j)) 0 ())
      ⊢ WP c (remoteStep c j) fun _ => iprop(Owe c l ∗ remoteInv m c ∗ dstPts c (j, false) (kvDst m c false) ∗ dstPts c (j, true) (kvDst m c true)
          ∗ cred (tallyAt (cell c (oS j)) () N)) := by
  unfold remoteStep
  iintro ⟨#Hrec, HO, Hinv, Hk, Hv, ⟨%fs, Hs⟩, ⟨%fd, Hd⟩, HtS, HtR⟩
  iapply (wp_then (wp_headStep m c j fs)) $$ [Hinv Hk Hv Hs]
  · isplitl [Hinv]; · iexact Hinv
    isplitl [Hk]; · iexact Hk
    isplitl [Hv]; · iexact Hv
    iexact Hs
  iintro ⟨Hinv, Hk, Hv, Hs⟩
  iapply (wp_last (wp_outStep m K c j l fd)) $$ [HO Hs Hd HtS HtR]
  · isplitr; · iexact Hrec
    isplitl [HO]; · iexact HO
    isplitl [Hs]; · iexact Hs
    isplitl [Hd]; · iexact Hd
    isplitl [HtS]; · iexact HtS
    iexact HtR
  iintro ⟨HO, Hc⟩
  isplitl [HO]; · iexact HO
  isplitl [Hinv]; · iexact Hinv
  isplitl [Hk]; · iexact Hk
  isplitl [Hv]; · iexact Hv
  iexact Hc

end Cert.Attn

end
-- ==== Proof.Split.lean ====
/-
# The buffers, split into their heads

A buffer of eight heads is its eight rows, and the result's buffer is the rows its own device computes and the rows its
partner along the first axis computes. A cell's conjunction over all cells is cut into its kinds.
-/
module

public import proofs.«01_k».proof.Proof.Phases

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem rows_disjoint (i j : Fin 8) (h : i ≠ j) : Disjoint (row8 i).set (row8 j).set :=
  Ring.lead_disjoint (s := S8x64x512) (NB := 8) 0 1 (fun b => ![b.val, 0, 0]) S1x64x512.size inb8 (by decide) (by decide) i j h
theorem rows_cover : Finset.univ.biUnion (fun j => (row8 j).set) = (Finset.univ : Finset S8x64x512.Idx) :=
  Ring.lead_cover (s := S8x64x512) (NB := 8) 0 1 (fun b => ![b.val, 0, 0]) S1x64x512.size inb8 (by decide) (by decide) (by decide) (by decide) (by decide)

theorem src_set (b : Bool) (c : Dev nD) (q : PosShare TreeShare) (f : Buf (Elt F) ((srcM b).view.loc (c : Thread nD τ))) :
    ((srcM b).view.loc (c : Thread nD τ) ↦{q} f : sProp 𝕄)
      = bigSep Finset.univ fun j => (head (srcM b) j).view.loc (c : Thread nD τ) ↦[(head (srcM b) j).view.set]{q} f := by
  cases b
  · refine (Ring.pointsTo_blocks (fun j => (row8 j).set) rows_disjoint rows_cover f).trans (bigSep_congr fun j _ => ?_)
    rw [show (head (srcM false) j).view.set = (row8 j).set from (View.set_reshape _ _).trans (View.set_slice_whole cc0_scratch1 (row8 j))]
  · refine (Ring.pointsTo_blocks (fun j => (row8 j).set) rows_disjoint rows_cover f).trans (bigSep_congr fun j _ => ?_)
    rw [show (head (srcM true) j).view.set = (row8 j).set from (View.set_reshape _ _).trans (View.set_slice_whole cc0_scratch2 (row8 j))]
theorem dst_set (b : Bool) (c : Dev nD) (f : Buf (Elt F) ((dstM b).view.loc (c : Thread nD τ))) :
    ((dstM b).view.loc (c : Thread nD τ) ↦{fullShare} f : sProp 𝕄) = bigSep Finset.univ fun j => dstPts c (j, b) f := by
  unfold dstPts
  cases b
  · refine (Ring.pointsTo_blocks (fun j => (row8 j).set) rows_disjoint rows_cover f).trans (bigSep_congr fun j _ => ?_)
    rw [show (head (dstM false) j).view.set = (row8 j).set from (View.set_reshape _ _).trans (View.set_slice_whole cc0_scratch3 (row8 j))]
  · refine (Ring.pointsTo_blocks (fun j => (row8 j).set) rows_disjoint rows_cover f).trans (bigSep_congr fun j _ => ?_)
    rw [show (head (dstM true) j).view.set = (row8 j).set from (View.set_reshape _ _).trans (View.set_slice_whole cc0_scratch4 (row8 j))]

/-! ## The result's rows -/

/-- The device that computes: this one (`false`), or its partner along the first axis (`true`). -/
def side (c : Dev nD) : Bool → Dev nD
  | false => c
  | true => xpeer c
/-- The number of a row among the sixteen. -/
abbrev rowNo (c : Dev nD) (y : Bool × Fin 8) : ℕ := 8 * ((side c y.1).val / 2) + y.2.val
theorem rowNo_inj (c : Dev nD) : Function.Injective (rowNo c) := by revert c; decide
theorem rowNo_surj (c : Dev nD) (r : Fin 16) : ∃ y, rowNo c y = r.val := by revert c r; decide

theorem orows_disjoint (c : Dev nD) (y y' : Bool × Fin 8) (h : y ≠ y') : Disjoint (orowR (side c y.1) y.2).set (orowR (side c y'.1) y'.2).set := by
  rw [Finset.disjoint_left]
  intro i hi hi'
  have h1 : rowNo c y ≤ (i 0).val ∧ (i 0).val < rowNo c y + 1 := Rect.mem_set_unit.mp hi 0
  have h2 : rowNo c y' ≤ (i 0).val ∧ (i 0).val < rowNo c y' + 1 := Rect.mem_set_unit.mp hi' 0
  exact h (rowNo_inj c (show rowNo c y = rowNo c y' by omega))
theorem orows_cover (c : Dev nD) : Finset.univ.biUnion (fun y : Bool × Fin 8 => (orowR (side c y.1) y.2).set) = (Finset.univ : Finset S16x64x512.Idx) := by
  ext i
  simp only [Finset.mem_biUnion, Finset.mem_univ, true_and, iff_true]
  obtain ⟨y, hy⟩ := rowNo_surj c (i 0)
  refine ⟨y, Rect.mem_set_unit.mpr fun a => ?_⟩
  match a with
  | 0 => exact ⟨hy.le, by show (i 0).val < rowNo c y + 1; omega⟩
  | 1 => exact ⟨Nat.zero_le _, by show (i 1).val < 0 + 64; have h1 : (i 1).val < 64 := (i 1).isLt; omega⟩
  | 2 => exact ⟨Nat.zero_le _, by show (i 2).val < 0 + 512; have h1 : (i 2).val < 512 := (i 2).isLt; omega⟩

theorem bigSep_bool (Φ : Bool → sProp 𝕄) : bigSep Finset.univ Φ = iprop(Φ false ∗ Φ true) :=
  bigSep_univ_eq_bigSepL [false, true] (by decide) (by decide) Φ

theorem outPts_eq (c d : Dev nD) (j : Fin 8) (f : Buf (Elt F) (outM.view.loc (c : Thread nD τ))) :
    (outPts c d j f : sProp 𝕄) = (outM.view.loc (c : Thread nD τ) ↦[(orowR d j).set]{fullShare} f) := by
  unfold outPts; rw [oset_eq]

theorem out_set (c : Dev nD) (f : Buf (Elt F) (outM.view.loc (c : Thread nD τ))) :
    (outM.view.loc (c : Thread nD τ) ↦{fullShare} f : sProp 𝕄)
      = iprop((bigSep Finset.univ fun j => outPts c c j f) ∗ bigSep Finset.univ fun j => outPts c (xpeer c) j f) := by
  refine (Ring.pointsTo_blocks (fun y : Bool × Fin 8 => (orowR (side c y.1) y.2).set) (orows_disjoint c) (orows_cover c) f).trans ?_
  rw [bigSep_univ_prod, bigSep_bool]
  rw [bigSep_congr (s := Finset.univ) fun j _ => outPts_eq c c j f, bigSep_congr (s := Finset.univ) fun j _ => outPts_eq c (xpeer c) j f]
  rfl

/-! ## Conjunctions over the cells -/

theorem bigSep_heads (Φ : Fin 8 → sProp 𝕄) : bigSep Finset.univ Φ = bigSepL heads Φ := bigSep_univ_eq_bigSepL heads (by decide) (by decide) Φ
theorem bigSep_pairs (Φ : Fin 8 × Bool → sProp 𝕄) : bigSep Finset.univ Φ = bigSepL heads fun j => iprop(Φ (j, false) ∗ Φ (j, true)) := by
  rw [bigSep_univ_prod, ← bigSep_heads]
  exact bigSep_congr fun j _ => bigSep_bool _
theorem bigSep_cells (Φ : CK → sProp 𝕄) :
    bigSep Finset.univ Φ = iprop(Φ bar ∗ Φ xbar ∗ (bigSepL heads fun j => iprop(Φ (kvS (j, false)) ∗ Φ (kvS (j, true))))
      ∗ (bigSepL heads fun j => iprop(Φ (kvR (j, false)) ∗ Φ (kvR (j, true)))) ∗ (bigSepL heads fun j => Φ (oS j)) ∗ bigSepL heads fun j => Φ (oR j)) := by
  rw [bigSep_univ_sum, bigSep_univ_sum, bigSep_univ_sum, bigSep_univ_sum, bigSep_univ_sum, bigSep_pairs, bigSep_pairs, bigSep_heads, bigSep_heads,
    bigSep_univ_of_subsingleton (i := ()), bigSep_univ_of_subsingleton (i := ())]
  rfl
theorem bigSepL_sep (l : List (Fin 8)) (Φ Ψ : Fin 8 → sProp 𝕄) : bigSepL l (fun j => iprop(Φ j ∗ Ψ j)) = iprop(bigSepL l Φ ∗ bigSepL l Ψ) := by
  induction l with
  | nil => exact (equiv_iff.mp emp_sep).symm
  | cons j l ih =>
    rw [bigSepL_cons', bigSepL_cons', bigSepL_cons', ih]
    have h := sep_sep_sep_comm (PROP := sProp 𝕄) (P := Φ j) (Q := Ψ j) (R := bigSepL l Φ) (S := bigSepL l Ψ)
    exact equiv_iff.mp ⟨h.1, h.2⟩

end Cert.Attn

end
-- ==== Proof.Loops.lean ====
/-
# The body's triple

From the launch's resources to the result: the loops of the phases, one after another, then the buffers put together again.
-/
module

public import proofs.«01_k».proof.Proof.Split

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The waits -/

theorem oList_lv {l : List (Fin 8)} {k : CK} (h : k ∈ oList l) : lvk k = 3 := by
  obtain ⟨j, -, rfl⟩ := List.mem_map.mp h; rfl

theorem wp_recvStep (K : Dev nD × CK → ℕ) (c : Dev nD) (j : Fin 8) (b : Bool) (l : List (Fin 8)) :
    iprop(records m K ∗ Owe c (oList l) ∗ cred (tallyAt (cell c (kvR (j, b))) () (amt (kvR (j, b)))) ∗ atPos ER (cell c (kvR (j, b))) 0 ∅ 0)
      ⊢ WP c (recvStep j b) fun _ => iprop(Owe c (oList l) ∗ semVal (cell c (kvR (j, b))) 0 ∗ dstPts c (j, b) (kvDst m c b)) :=
  wp_wait_cell m K c (kvR (j, b)) (oList l) (fun k' h => by rw [oList_lv h]; exact Nat.lt_succ_self 2) (dst_credit b j)
    (wpE_waitDma2_eq 𝒱₀ (c : Thread nD τ) none Set.univ)

theorem wp_oRecvStep (K : Dev nD × CK → ℕ) (c : Dev nD) (j : Fin 8) :
    iprop(records m K ∗ Owe c [] ∗ cred (tallyAt (cell c (oR j)) () (amt (oR j))) ∗ atPos ER (cell c (oR j)) 0 ∅ 0)
      ⊢ WP c (oRecvStep c j) fun _ => iprop(Owe c [] ∗ semVal (cell c (oR j)) 0 ∗ outPts c (xpeer c) j (outv m c)) :=
  wp_wait_cell m K c (oR j) [] (fun k' h => absurd h List.not_mem_nil) (out_credit c j) (wpE_waitDma2_eq 𝒱₀ (c : Thread nD τ) none Set.univ)

theorem wp_oSendStep (K : Dev nD × CK → ℕ) (c : Dev nD) (j : Fin 8) :
    iprop(records m K ∗ Owe c [] ∗ cred (tallyAt (cell c (oS j)) () (amt (oS j))) ∗ atPos ER (cell c (oS j)) 0 ∅ 0)
      ⊢ WP c (oSendStep c j) fun _ => iprop(Owe c [] ∗ semVal (cell c (oS j)) 0 ∗ outPts c c j (outv m c)) :=
  wp_wait_cell m K c (oS j) [] (fun k' h => absurd h List.not_mem_nil) (out_credit c j) (wpE_waitDma2_eq 𝒱₀ (c : Thread nD τ) none Set.univ)

theorem wp_sentStep (K : Dev nD × CK → ℕ) (c : Dev nD) (j : Fin 8) (b : Bool) :
    iprop(records m K ∗ Owe c [] ∗ cred (tallyAt (cell c (kvS (j, b))) () (amt (kvS (j, b)))) ∗ atPos ER (cell c (kvS (j, b))) 0 ∅ 0)
      ⊢ WP c (sentStep j b) fun _ => iprop(Owe c [] ∗ semVal (cell c (kvS (j, b))) 0 ∗ srcPts m c (j, b)) :=
  wp_wait_cell m K c (kvS (j, b)) [] (fun k' h => absurd h List.not_mem_nil) (src_credit b j) (wpE_waitDma2_eq 𝒱₀ (c : Thread nD τ) none Set.univ)

theorem wp_barWait (K : Dev nD × CK → ℕ) (c : Dev nD) (k : CK) (l : List CK) (hl : ∀ k' ∈ l, lvk k < lvk k') {sem : Sem sig} (hsem : csem k = .reg sem) (hamt : amt k = 1) :
    iprop(records m K ∗ Owe c l ∗ cred (tallyAt (cell c k) () (amt k)) ∗ atPos ER (cell c k) 0 ∅ 0)
      ⊢ WP c (semWaitWord sem 1#32) fun _ => iprop(Owe c l ∗ semVal (cell c k) 0 ∗ pay m c k) :=
  wp_wait_cell m K c k l hl (w := .semWait sem ((1#32 : BitVec 32).toInt)) (k' := 1) hamt.symm (by rw [hsem]; exact wpE_semWait_eq 𝒱₀ (c : Thread nD τ) none Set.univ)

/-! ## The loops -/

/-- A pair of things, one for each side. -/
abbrev two (Φ : Fin 8 × Bool → sProp 𝕄) (j : Fin 8) : sProp 𝕄 := iprop(Φ (j, false) ∗ Φ (j, true))

def sendNeeds (c : Dev nD) (j : Fin 8) : sProp 𝕄 :=
  iprop(two (srcPts m c) j ∗ two (fun x => iprop(∃ f, dstPts (ypeer c) x f)) j
    ∗ two (fun x => dutyTok ER (cell c (kvS x)) 0 ()) j ∗ two (fun x => dutyTok ER (cell (ypeer c) (kvR x)) 0 ()) j)
def kvSent (c : Dev nD) : Fin 8 → sProp 𝕄 := two fun x => cred (tallyAt (cell c (kvS x)) () (amt (kvS x)))

theorem wp_sendLoop (K : Dev nD × CK → ℕ) (c : Dev nD) :
    iprop((records m K ∗ Owe c (kvList heads afterKv)) ∗ bigSepL heads (sendNeeds m c))
      ⊢ WP c (loop (fun j => do sendStep c j false; sendStep c j true) heads) fun _ => iprop((records m K ∗ Owe c afterKv) ∗ bigSepL heads (kvSent c)) := by
  refine wp_loop c _ (fun l => iprop(records m K ∗ Owe c (kvList l afterKv))) (sendNeeds m c) (kvSent c) (fun j l => ?_) heads
  unfold sendNeeds kvSent
  iintro ⟨⟨#Hrec, HO⟩, ⟨Hs0, Hs1⟩, ⟨Hd0, Hd1⟩, ⟨Ht0, Ht1⟩, Hr0, Hr1⟩
  iapply (wp_then (wp_sendStep m K c (j, false) (kvR (j, true) :: kvList l afterKv))) $$ [HO Hs0 Hd0 Ht0 Hr0]
  · isplitr; · iexact Hrec
    isplitl [HO]; · iexact HO
    isplitl [Hs0]; · iexact Hs0
    isplitl [Hd0]; · iexact Hd0
    isplitl [Ht0]; · iexact Ht0
    iexact Hr0
  iintro ⟨HO, Hc0⟩
  iapply (wp_last (wp_sendStep m K c (j, true) (kvList l afterKv))) $$ [HO Hs1 Hd1 Ht1 Hr1]
  · isplitr; · iexact Hrec
    isplitl [HO]; · iexact HO
    isplitl [Hs1]; · iexact Hs1
    isplitl [Hd1]; · iexact Hd1
    isplitl [Ht1]; · iexact Ht1
    iexact Hr1
  iintro ⟨HO, Hc1⟩
  isplitl [HO]
  · isplitr; · iexact Hrec
    iexact HO
  isplitl [Hc0]; · iexact Hc0
  iexact Hc1

theorem wp_localLoop (c : Dev nD) : localInv m c heads ⊢ WP c (loop localStep heads) fun _ => localInv m c [] := by
  have h := wp_loop c localStep (localInv m c) (fun _ => iprop(emp)) (fun _ => iprop(emp)) (fun j l => by
    iintro ⟨H, -⟩
    iapply (wp_last (wp_localStep m c j l)) $$ H
    iintro H
    isplitl [H]; · iexact H
    iempintro) heads
  have he : ∀ l : List (Fin 8), (emp : sProp 𝕄) ⊢ bigSepL l fun _ => iprop(emp) := fun l => by
    induction l with
    | nil => exact BIBase.Entails.rfl
    | cons j l ih =>
      rw [bigSepL_cons']
      iintro -
      isplitl
      · iempintro
      · iapply ih; iempintro
  iintro H
  iapply (wp_last h) $$ [H]
  · isplitl [H]; · iexact H
    iapply (he heads); iempintro
  iintro ⟨H, -⟩
  iexact H

def recvNeeds (c : Dev nD) (j : Fin 8) : sProp 𝕄 :=
  iprop(two (fun x => cred (tallyAt (cell c (kvR x)) () (amt (kvR x)))) j ∗ two (fun x => atPos ER (cell c (kvR x)) 0 ∅ 0) j)
def outNeeds (c : Dev nD) (j : Fin 8) : sProp 𝕄 :=
  iprop((∃ f, outPts c c j f) ∗ (∃ f, outPts (xpeer c) c j f) ∗ dutyTok ER (cell c (oS j)) 0 () ∗ dutyTok ER (cell (xpeer c) (oR j)) 0 ())
def headDone (c : Dev nD) (j : Fin 8) : sProp 𝕄 :=
  iprop(two (fun x => dstPts c x (kvDst m c x.2)) j ∗ two (fun x => semVal (cell c (kvR x)) 0) j ∗ cred (tallyAt (cell c (oS j)) () (amt (oS j))))

theorem wp_remoteLoop (K : Dev nD × CK → ℕ) (c : Dev nD) :
    iprop((records m K ∗ Owe c (oList laterHeads) ∗ remoteInv m c) ∗ bigSepL laterHeads fun j => iprop(recvNeeds c j ∗ outNeeds c j))
      ⊢ WP c (loop (fun j => do recvStep j false; recvStep j true; remoteStep c j) laterHeads) fun _ =>
        iprop((records m K ∗ Owe c [] ∗ remoteInv m c) ∗ bigSepL laterHeads (headDone m c)) := by
  refine wp_loop c _ (fun l => iprop(records m K ∗ Owe c (oList l) ∗ remoteInv m c)) _ (headDone m c) (fun j l => ?_) laterHeads
  unfold recvNeeds outNeeds headDone
  iintro ⟨⟨#Hrec, HO, Hinv⟩, ⟨⟨Hc0, Hc1⟩, Ha0, Ha1⟩, Hs, Hd, HtS, HtR⟩
  iapply (wp_then (wp_recvStep m K c j false (j :: l))) $$ [HO Hc0 Ha0]
  · isplitr; · iexact Hrec
    isplitl [HO]; · iexact HO
    isplitl [Hc0]; · iexact Hc0
    iexact Ha0
  iintro ⟨HO, Hz0, Hk⟩
  iapply (wp_then (wp_recvStep m K c j true (j :: l))) $$ [HO Hc1 Ha1]
  · isplitr; · iexact Hrec
    isplitl [HO]; · iexact HO
    isplitl [Hc1]; · iexact Hc1
    iexact Ha1
  iintro ⟨HO, Hz1, Hv⟩
  iapply (wp_last (wp_remoteStep m K c j (oList l))) $$ [HO Hinv Hk Hv Hs Hd HtS HtR]
  · isplitr; · iexact Hrec
    isplitl [HO]; · iexact HO
    isplitl [Hinv]; · iexact Hinv
    isplitl [Hk]; · iexact Hk
    isplitl [Hv]; · iexact Hv
    isplitl [Hs]; · iexact Hs
    isplitl [Hd]; · iexact Hd
    isplitl [HtS]; · iexact HtS
    iexact HtR
  iintro ⟨HO, Hinv, Hk, Hv, Hc⟩
  isplitl [HO Hinv]
  · isplitr; · iexact Hrec
    isplitl [HO]; · iexact HO
    iexact Hinv
  isplitl [Hk Hv]
  · isplitl [Hk]; · iexact Hk
    iexact Hv
  isplitl [Hz0 Hz1]
  · isplitl [Hz0]; · iexact Hz0
    iexact Hz1
  iexact Hc

def oRecvNeeds (c : Dev nD) (j : Fin 8) : sProp 𝕄 := iprop(cred (tallyAt (cell c (oR j)) () (amt (oR j))) ∗ atPos ER (cell c (oR j)) 0 ∅ 0)
def oRecvDone (c : Dev nD) (j : Fin 8) : sProp 𝕄 := iprop(semVal (cell c (oR j)) 0 ∗ outPts c (xpeer c) j (outv m c))

theorem wp_oRecvLoop (K : Dev nD × CK → ℕ) (c : Dev nD) :
    iprop((records m K ∗ Owe c []) ∗ bigSepL heads (oRecvNeeds c))
      ⊢ WP c (loop (oRecvStep c) heads) fun _ => iprop((records m K ∗ Owe c []) ∗ bigSepL heads (oRecvDone m c)) := by
  refine wp_loop c _ (fun _ => iprop(records m K ∗ Owe c [])) (oRecvNeeds c) (oRecvDone m c) (fun j l => ?_) heads
  unfold oRecvNeeds oRecvDone
  iintro ⟨⟨#Hrec, HO⟩, Hc, Ha⟩
  iapply (wp_last (wp_oRecvStep m K c j)) $$ [HO Hc Ha]
  · isplitr; · iexact Hrec
    isplitl [HO]; · iexact HO
    isplitl [Hc]; · iexact Hc
    iexact Ha
  iintro ⟨HO, Hz, Hp⟩
  isplitl [HO]
  · isplitr; · iexact Hrec
    iexact HO
  isplitl [Hz]; · iexact Hz
  iexact Hp

def sentNeeds (c : Dev nD) (j : Fin 8) : sProp 𝕄 :=
  iprop((cred (tallyAt (cell c (oS j)) () (amt (oS j))) ∗ atPos ER (cell c (oS j)) 0 ∅ 0) ∗ kvSent c j ∗ two (fun x => atPos ER (cell c (kvS x)) 0 ∅ 0) j)
def sentDone (c : Dev nD) (j : Fin 8) : sProp 𝕄 :=
  iprop((semVal (cell c (oS j)) 0 ∗ outPts c c j (outv m c)) ∗ two (fun x => semVal (cell c (kvS x)) 0) j ∗ two (srcPts m c) j)

theorem wp_sentLoop (K : Dev nD × CK → ℕ) (c : Dev nD) :
    iprop((records m K ∗ Owe c []) ∗ bigSepL heads (sentNeeds c))
      ⊢ WP c (loop (fun j => do oSendStep c j; sentStep j false; sentStep j true) heads) fun _ => iprop((records m K ∗ Owe c []) ∗ bigSepL heads (sentDone m c)) := by
  refine wp_loop c _ (fun _ => iprop(records m K ∗ Owe c [])) (sentNeeds c) (sentDone m c) (fun j l => ?_) heads
  unfold sentNeeds sentDone kvSent
  iintro ⟨⟨#Hrec, HO⟩, ⟨Hc, Ha⟩, ⟨Hc0, Hc1⟩, Ha0, Ha1⟩
  iapply (wp_then (wp_oSendStep m K c j)) $$ [HO Hc Ha]
  · isplitr; · iexact Hrec
    isplitl [HO]; · iexact HO
    isplitl [Hc]; · iexact Hc
    iexact Ha
  iintro ⟨HO, Hz, Hp⟩
  iapply (wp_then (wp_sentStep m K c j false)) $$ [HO Hc0 Ha0]
  · isplitr; · iexact Hrec
    isplitl [HO]; · iexact HO
    isplitl [Hc0]; · iexact Hc0
    iexact Ha0
  iintro ⟨HO, Hz0, Hs0⟩
  iapply (wp_last (wp_sentStep m K c j true)) $$ [HO Hc1 Ha1]
  · isplitr; · iexact Hrec
    isplitl [HO]; · iexact HO
    isplitl [Hc1]; · iexact Hc1
    iexact Ha1
  iintro ⟨HO, Hz1, Hs1⟩
  isplitl [HO]
  · isplitr; · iexact Hrec
    iexact HO
  isplitl [Hz Hp]
  · isplitl [Hz]; · iexact Hz
    iexact Hp
  isplitl [Hz0 Hz1]
  · isplitl [Hz0]; · iexact Hz0
    iexact Hz1
  isplitl [Hs0]; · iexact Hs0
  iexact Hs1

end Cert.Attn

end
-- ==== Proof.Whole.lean ====
/-
# The body, from the launch's resources to the result

The steps and the loops one after another: the buffers are cut into heads on the way in, handed to the partners by the two
barriers, and put together again on the way out.
-/
module

public import proofs.«01_k».proof.Proof.Loops

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cutting and joining -/

theorem src_cut (c : Dev nD) (b : Bool) :
    ((srcM b).view.loc (c : Thread nD τ) ↦{fullShare} kvSrc m c b : sProp 𝕄) = iprop(kvHalf m c b ∗ bigSepL heads fun j => srcPts m c (j, b)) := by
  rw [equiv_iff.mp ⟨(pointsTo_share (PosShare.mem_left_op_right fullShare)).1, (pointsTo_share (PosShare.mem_left_op_right fullShare)).2⟩,
    src_set b c fullShare.right, bigSep_heads]
  rfl

/-- The two scratch buffers for the partner's heads. -/
theorem dst_cut (c : Dev nD) (b : Bool) (f : Buf (Elt F) ((dstM b).view.loc (c : Thread nD τ))) :
    ((dstM b).view.loc (c : Thread nD τ) ↦{fullShare} f : sProp 𝕄) = bigSepL heads fun j => dstPts c (j, b) f := by
  rw [dst_set, bigSep_heads]

theorem dst_give (c : Dev nD) :
    iprop((∃ f, (dstM false).view.loc (c : Thread nD τ) ↦{fullShare} f) ∗ ∃ f, (dstM true).view.loc (c : Thread nD τ) ↦{fullShare} f)
      ⊢ (pay m (ypeer c) bar : sProp 𝕄) := by
  dsimp only [pay]
  rw [ypeer_ypeer, bigSep_pairs]
  iintro ⟨⟨%f, Hf⟩, ⟨%g, Hg⟩⟩
  rw [bigSepL_sep heads (fun j => iprop(∃ f, dstPts c (j, false) f)) (fun j => iprop(∃ f, dstPts c (j, true) f))]
  isplitl [Hf]
  · iapply (bigSepL_mono (l := heads) (Φ := fun j => dstPts c (j, false) f) fun j _ => by iintro H; iexists f; iexact H)
    rw [← dst_cut c false f]; iexact Hf
  · iapply (bigSepL_mono (l := heads) (Φ := fun j => dstPts c (j, true) g) fun j _ => by iintro H; iexists g; iexact H)
    rw [← dst_cut c true g]; iexact Hg

theorem rows_exist (c d : Dev nD) (f : Buf (Elt F) (outM.view.loc (c : Thread nD τ))) :
    (bigSep Finset.univ (fun j => outPts c d j f) : sProp 𝕄) ⊢ bigSep Finset.univ fun j => iprop(∃ f, outPts c d j f) :=
  bigSep_mono fun j _ => show (outPts c d j f : sProp 𝕄) ⊢ iprop(∃ f, outPts c d j f) from by iintro H; iexists f; iexact H

theorem out_give (c : Dev nD) :
    iprop(∃ f, outM.view.loc (c : Thread nD τ) ↦{fullShare} f) ⊢ (iprop((bigSepL heads fun j => iprop(∃ f, outPts c c j f)) ∗ pay m (xpeer c) xbar) : sProp 𝕄) := by
  dsimp only [pay]
  rw [xpeer_xpeer]
  iintro ⟨%f, H⟩
  ihave H := (Entails.of_eq (out_set c f)) $$ H
  icases H with ⟨H0, H1⟩
  isplitl [H0]
  · rw [← bigSep_heads]
    iapply (rows_exist c c f); iexact H0
  · iapply (rows_exist c (xpeer c) f); iexact H1

theorem out_join (c : Dev nD) :
    iprop((bigSepL heads fun j => outPts c c j (outv m c)) ∗ bigSepL heads fun j => outPts c (xpeer c) j (outv m c))
      ⊢ (outM.view.loc (c : Thread nD τ) ↦{fullShare} outv m c : sProp 𝕄) := by
  rw [out_set, bigSep_heads, bigSep_heads]

/-! ## The resources at the two ends -/

def inputs (c : Dev nD) : sProp 𝕄 :=
  iprop((qIn.view.loc (c : Thread nD τ) ↦{fullShare} stgQ m c) ∗ (kIn.view.loc (c : Thread nD τ) ↦{fullShare} stgK m c) ∗ vIn.view.loc (c : Thread nD τ) ↦{fullShare} stgV m c)
def scratch (c : Dev nD) : sProp 𝕄 :=
  iprop((∃ f, qM.view.loc (c : Thread nD τ) ↦{fullShare} f) ∗ (∃ f, (srcM false).view.loc (c : Thread nD τ) ↦{fullShare} f)
    ∗ (∃ f, (srcM true).view.loc (c : Thread nD τ) ↦{fullShare} f) ∗ (∃ f, (dstM false).view.loc (c : Thread nD τ) ↦{fullShare} f)
    ∗ (∃ f, (dstM true).view.loc (c : Thread nD τ) ↦{fullShare} f) ∗ (∃ f, oaccM.view.loc (c : Thread nD τ) ↦{fullShare} f)
    ∗ ∃ f, laccM.view.loc (c : Thread nD τ) ↦{fullShare} f)
def positions (c : Dev nD) : sProp 𝕄 := bigSep Finset.univ fun k : CK => atPos ER (cell c k) 0 ∅ 0
/-- The tokens of the payments device `c` makes. -/
def payToks (c : Dev nD) : sProp 𝕄 := bigSep Finset.univ fun k : CK => dutyTok ER (cell (tgt k c) k) 0 ()
def creds (c : Dev nD) : sProp 𝕄 :=
  iprop(cred (tallyAt (cell c bar) () (amt bar)) ∗ cred (tallyAt (cell c xbar) () (amt xbar))
    ∗ (bigSepL heads fun j => two (fun x => cred (tallyAt (cell c (kvR x)) () (amt (kvR x)))) j) ∗ bigSepL heads fun j => cred (tallyAt (cell c (oR j)) () (amt (oR j))))
def zeros (c : Dev nD) : sProp 𝕄 := bigSep Finset.univ fun k : CK => semVal (cell c k) 0

/-! ## The arrays brought in -/

theorem prep_q (c : Dev nD) (g : Buf (Elt F) (qM.view.loc (c : Thread nD τ))) :
    (qM.access all8).write (Elt F) g (k0_pay1 (qIn.view.readAt (Elt F) (batch c).toLoadRect (stgQ m c))) Finset.univ = qVal m c :=
  Memref.write_access_unit_zero_univ (Elt F) cc0_scratch0 hz3 _ g _
theorem prep_k (c : Dev nD) (g : Buf (Elt F) ((srcM false).view.loc (c : Thread nD τ))) :
    ((srcM false).access all8).write (Elt F) g (k0_pay2 (kIn.view.readAt (Elt F) (batch c).toLoadRect (stgK m c))) Finset.univ = kvSrc m c false :=
  Memref.write_access_unit_zero_univ (Elt F) cc0_scratch1 hz3 _ g _
theorem prep_v (c : Dev nD) (g : Buf (Elt F) ((srcM true).view.loc (c : Thread nD τ))) :
    ((srcM true).access all8).write (Elt F) g (k0_pay4 (k0_pay3 (vIn.view.readAt (Elt F) (batch c).toLoadRect (stgV m c)))) Finset.univ = kvSrc m c true :=
  Memref.write_access_unit_zero_univ (Elt F) cc0_scratch2 hz3 _ g _

theorem wp_dev (c : Dev nD) {α : Type} (k : Dev nD → Prog (TpuEff nD τ sig (Elt F) Λ₀ .tc) α) (Q : α → sProp 𝕄) :
    (WP c (Prog.lift .deviceId >>= k) Q : sProp 𝕄) = WP c (k c) Q := by
  unfold WP
  simp only [Prog.lift, Prog.bind_op, Prog.bind_ret, wp_deviceId]

/-! ## The whole body -/

def bodyPre (K : Dev nD × CK → ℕ) (c : Dev nD) : sProp 𝕄 :=
  iprop(records m K ∗ Owe c allOwed ∗ positions c ∗ payToks c ∗ creds c ∗ inputs m c ∗ (∃ f, outM.view.loc (c : Thread nD τ) ↦{fullShare} f) ∗ scratch c)
def bodyPost (c : Dev nD) : sProp 𝕄 :=
  iprop(Owe c [] ∗ zeros c ∗ inputs m c ∗ (outM.view.loc (c : Thread nD τ) ↦{fullShare} outv m c) ∗ scratch c)

/-- What is held between the arrays brought in and the second loop's start, and from there on: the stretch that moves data. -/
theorem wp_preps (c : Dev nD) {α : Type} {k : PUnit → Prog (TpuEff nD τ sig (Elt F) Λ₀ .tc) α} {Q : α → sProp 𝕄} :
    iprop(inputs m c ∗ (∃ f, qM.view.loc (c : Thread nD τ) ↦{fullShare} f) ∗ (∃ f, (srcM false).view.loc (c : Thread nD τ) ↦{fullShare} f)
        ∗ ∃ f, (srcM true).view.loc (c : Thread nD τ) ↦{fullShare} f)
      ⊢ iprop(((inputs m c ∗ qPts m c ∗ ((srcM false).view.loc (c : Thread nD τ) ↦{fullShare} kvSrc m c false)
          ∗ (srcM true).view.loc (c : Thread nD τ) ↦{fullShare} kvSrc m c true) -∗ WP c (k ⟨⟩) Q)
        -∗ WP c (prepStep c qIn qM (Memref.isWhole_whole _) k0_pay1 >>= fun _ => prepStep c kIn (srcM false) (srcM_whole false) k0_pay2 >>= fun _ =>
            prepStep c vIn (srcM true) (srcM_whole true) (fun x => k0_pay4 (k0_pay3 x)) >>= k) Q) := by
  unfold inputs qPts
  iintro ⟨⟨Hq, Hk, Hv⟩, Hq', Hk', Hv'⟩ Hc
  iapply (wp_then (wp_prep c qIn qM (Memref.isWhole_whole _) k0_pay1 (stgQ m c) (qVal m c) (prep_q m c))) $$ [Hq Hq']
  · isplitl [Hq]; · iexact Hq
    iexact Hq'
  iintro ⟨Hq, Hq'⟩
  iapply (wp_then (wp_prep c kIn (srcM false) (srcM_whole false) k0_pay2 (stgK m c) (kvSrc m c false) (prep_k m c))) $$ [Hk Hk']
  · isplitl [Hk]; · iexact Hk
    iexact Hk'
  iintro ⟨Hk, Hk'⟩
  iapply (wp_then (wp_prep c vIn (srcM true) (srcM_whole true) (fun x => k0_pay4 (k0_pay3 x)) (stgV m c) (kvSrc m c true) (prep_v m c))) $$ [Hv Hv']
  · isplitl [Hv]; · iexact Hv
    iexact Hv'
  iintro ⟨Hv, Hv'⟩
  iapply Hc
  isplitl [Hq Hk Hv]
  · isplitl [Hq]; · iexact Hq
    isplitl [Hk]; · iexact Hk
    iexact Hv
  isplitl [Hq']; · iexact Hq'
  isplitl [Hk']; · iexact Hk'
  iexact Hv'

end Cert.Attn

end
-- ==== Proof.Sound.lean ====
/-
# The body's triple

The body from what the launch gives it to the finished result, every semaphore back at zero.
-/
module

public import proofs.«01_k».proof.Proof.Whole

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem sendNeeds_eq (c : Dev nD) : (bigSepL heads (sendNeeds m c) : sProp 𝕄)
    = iprop((bigSepL heads (two (srcPts m c))) ∗ (bigSepL heads (two fun x => iprop(∃ f, dstPts (ypeer c) x f)))
      ∗ (bigSepL heads (two fun x => dutyTok ER (cell c (kvS x)) 0 ())) ∗ bigSepL heads (two fun x => dutyTok ER (cell (ypeer c) (kvR x)) 0 ())) := by
  rw [← bigSepL_sep, ← bigSepL_sep, ← bigSepL_sep]; rfl
theorem recvNeeds_cons (c : Dev nD) :
    (iprop((bigSepL heads (two fun x => cred (tallyAt (cell c (kvR x)) () (amt (kvR x))))) ∗ bigSepL heads (two fun x => atPos ER (cell c (kvR x)) 0 ∅ 0)) : sProp 𝕄)
      = iprop(((cred (tallyAt (cell c (kvR (0, false))) () (amt (kvR (0, false)))) ∗ cred (tallyAt (cell c (kvR (0, true))) () (amt (kvR (0, true)))))
          ∗ atPos ER (cell c (kvR (0, false))) 0 ∅ 0 ∗ atPos ER (cell c (kvR (0, true))) 0 ∅ 0) ∗ bigSepL laterHeads (recvNeeds c)) := by
  rw [← bigSepL_sep]; rfl
theorem outNeeds_cons (c : Dev nD) :
    (iprop((bigSepL heads fun j => iprop(∃ f, outPts c c j f)) ∗ (bigSepL heads fun j => iprop(∃ f, outPts (xpeer c) c j f))
      ∗ (bigSepL heads fun j => dutyTok ER (cell c (oS j)) 0 ()) ∗ bigSepL heads fun j => dutyTok ER (cell (xpeer c) (oR j)) 0 ()) : sProp 𝕄)
      = iprop(((∃ f, outPts c c 0 f) ∗ (∃ f, outPts (xpeer c) c 0 f) ∗ dutyTok ER (cell c (oS 0)) 0 () ∗ dutyTok ER (cell (xpeer c) (oR 0)) 0 ())
          ∗ bigSepL laterHeads (outNeeds c)) := by
  rw [← bigSepL_sep, ← bigSepL_sep, ← bigSepL_sep]; rfl
theorem laterNeeds_eq (c : Dev nD) : (bigSepL laterHeads (fun j => iprop(recvNeeds c j ∗ outNeeds c j)) : sProp 𝕄)
    = iprop(bigSepL laterHeads (recvNeeds c) ∗ bigSepL laterHeads (outNeeds c)) := bigSepL_sep ..
theorem headDone_cons (c : Dev nD) :
    (iprop((((dstPts c (0, false) (kvDst m c false) ∗ dstPts c (0, true) (kvDst m c true))
        ∗ (semVal (cell c (kvR (0, false))) 0 ∗ semVal (cell c (kvR (0, true))) 0) ∗ cred (tallyAt (cell c (oS 0)) () N)) ∗ bigSepL laterHeads (headDone m c))) : sProp 𝕄)
      = bigSepL heads (headDone m c) := rfl
theorem headDone_eq (c : Dev nD) : (bigSepL heads (headDone m c) : sProp 𝕄)
    = iprop(((bigSepL heads fun j => dstPts c (j, false) (kvDst m c false)) ∗ bigSepL heads fun j => dstPts c (j, true) (kvDst m c true))
      ∗ (bigSepL heads (two fun x => semVal (cell c (kvR x)) 0)) ∗ bigSepL heads fun j => cred (tallyAt (cell c (oS j)) () (amt (oS j)))) := by
  rw [← bigSepL_sep, ← bigSepL_sep, ← bigSepL_sep]; rfl
theorem oRecvNeeds_eq (c : Dev nD) : (bigSepL heads (oRecvNeeds c) : sProp 𝕄)
    = iprop((bigSepL heads fun j => cred (tallyAt (cell c (oR j)) () (amt (oR j)))) ∗ bigSepL heads fun j => atPos ER (cell c (oR j)) 0 ∅ 0) := by
  rw [← bigSepL_sep]; rfl
theorem oRecvDone_eq (c : Dev nD) : (bigSepL heads (oRecvDone m c) : sProp 𝕄)
    = iprop((bigSepL heads fun j => semVal (cell c (oR j)) 0) ∗ bigSepL heads fun j => outPts c (xpeer c) j (outv m c)) := by
  rw [← bigSepL_sep]; rfl
theorem sentNeeds_eq (c : Dev nD) : (bigSepL heads (sentNeeds c) : sProp 𝕄)
    = iprop(((bigSepL heads fun j => cred (tallyAt (cell c (oS j)) () (amt (oS j)))) ∗ bigSepL heads fun j => atPos ER (cell c (oS j)) 0 ∅ 0)
      ∗ (bigSepL heads (kvSent c)) ∗ bigSepL heads (two fun x => atPos ER (cell c (kvS x)) 0 ∅ 0)) := by
  rw [← bigSepL_sep, ← bigSepL_sep, ← bigSepL_sep]; rfl
theorem sentDone_eq (c : Dev nD) : (bigSepL heads (sentDone m c) : sProp 𝕄)
    = iprop(((bigSepL heads fun j => semVal (cell c (oS j)) 0) ∗ bigSepL heads fun j => outPts c c j (outv m c))
      ∗ (bigSepL heads (two fun x => semVal (cell c (kvS x)) 0)) ∗ (bigSepL heads fun j => srcPts m c (j, false)) ∗ bigSepL heads fun j => srcPts m c (j, true)) := by
  rw [← bigSepL_sep, ← bigSepL_sep, ← bigSepL_sep, ← bigSepL_sep]; rfl

theorem kv_lv : ∀ k ∈ kvList heads afterKv, lvk bar < lvk k := by decide
theorem o_lv : ∀ k ∈ oList heads, lvk xbar < lvk k := by decide

theorem src_two (c : Dev nD) :
    iprop((bigSepL heads fun j => srcPts m c (j, false)) ∗ bigSepL heads fun j => srcPts m c (j, true)) ⊢ (bigSepL heads (two (srcPts m c)) : sProp 𝕄) := by
  rw [← bigSepL_sep]

/-- The sums' buffers before the first loop hold nothing yet. -/
theorem localInv_intro (c : Dev nD) :
    iprop(kvHalf m c false ∗ kvHalf m c true ∗ qPts m c ∗ (∃ f, laccM.view.loc (c : Thread nD τ) ↦{fullShare} f) ∗ ∃ f, oaccM.view.loc (c : Thread nD τ) ↦{fullShare} f)
      ⊢ (localInv m c heads : sProp 𝕄) := by
  unfold localInv laccPts oaccPts
  iintro ⟨Hk, Hv, Hq, ⟨%f, Hl⟩, ⟨%g, Ho⟩⟩
  isplitl [Hk]; · iexact Hk
  isplitl [Hv]; · iexact Hv
  isplitl [Hq]; · iexact Hq
  isplitl [Hl]
  · iexists f; isplitr
    · ipureintro; intro i hi; exact absurd (by revert i; decide) hi
    iexact Hl
  iexists g; isplitr
  · ipureintro; intro i hi; exact absurd (by revert i; decide) hi
  iexact Ho

theorem remoteInv_intro (c : Dev nD) : iprop(qPts m c ∗ laccPts m c [] ∗ oaccPts m c []) ⊢ (remoteInv m c : sProp 𝕄) := .rfl

/-- Everything joined again. -/
theorem scratch_join (c : Dev nD) :
    iprop(remoteInv m c ∗ (kvHalf m c false ∗ kvHalf m c true) ∗ ((bigSepL heads fun j => srcPts m c (j, false)) ∗ bigSepL heads fun j => srcPts m c (j, true))
        ∗ (bigSepL heads fun j => dstPts c (j, false) (kvDst m c false)) ∗ bigSepL heads fun j => dstPts c (j, true) (kvDst m c true))
      ⊢ (scratch c : sProp 𝕄) := by
  unfold remoteInv qPts laccPts oaccPts scratch
  iintro ⟨⟨Hq, ⟨%f, -, Hl⟩, ⟨%g, -, Ho⟩⟩, ⟨Hk, Hv⟩, ⟨Hk', Hv'⟩, Hd, Hd'⟩
  isplitl [Hq]; · iexists _; iexact Hq
  isplitl [Hk Hk']
  · iexists (kvSrc m c false); rw [src_cut]; isplitl [Hk]; · iexact Hk
    iexact Hk'
  isplitl [Hv Hv']
  · iexists (kvSrc m c true); rw [src_cut]; isplitl [Hv]; · iexact Hv
    iexact Hv'
  isplitl [Hd]
  · iexists (kvDst m c false); rw [dst_cut]; iexact Hd
  isplitl [Hd']
  · iexists (kvDst m c true); rw [dst_cut]; iexact Hd'
  isplitl [Ho]; · iexists g; iexact Ho
  iexists f; iexact Hl

theorem sound (K : Dev nD × CK → ℕ) (c : Dev nD) : bodyPre m K c ⊢ WP c body fun _ => bodyPost m c := by
  unfold body
  rw [wp_dev]
  unfold bodyPre positions payToks creds scratch
  rw [bigSep_cells, bigSep_cells]
  iintro ⟨#Hrec, HO, ⟨AtB, AtX, AtS, AtR, AtOS, AtOR⟩, ⟨TkB, TkX, TkS, TkR, TkOS, TkOR⟩, ⟨CrB, CrX, CrR, CrOR⟩, Hin, Hout, Hq, Hk, Hv, Hd, Hd', Hoa, Hla⟩
  -- the arrays brought in
  iapply (wp_preps m c) $$ [Hin Hq Hk Hv]
  · isplitl [Hin]; · iexact Hin
    isplitl [Hq]; · iexact Hq
    isplitl [Hk]; · iexact Hk
    iexact Hv
  iintro ⟨Hin, Hq, Hk, Hv⟩
  ihave Hk := (Entails.of_eq (src_cut m c false)) $$ Hk
  icases Hk with ⟨Hk, HsK⟩
  ihave Hv := (Entails.of_eq (src_cut m c true)) $$ Hv
  icases Hv with ⟨Hv, HsV⟩
  -- the barrier with the partner along the second axis
  ihave Hgive := (dst_give m c) $$ [Hd Hd']
  · isplitl [Hd]; · iexact Hd
    iexact Hd'
  iapply (wp_then (wp_signal_cell m K c _ bar rfl (dev1_eq c) rfl (kvList heads afterKv))) $$ [HO TkB Hgive]
  · isplitr; · iexact Hrec
    isplitl [HO]; · iexact HO
    isplitl [TkB]; · iexact TkB
    iexact Hgive
  iintro HO
  iapply (wp_then (wp_barWait m K c bar (kvList heads afterKv) kv_lv rfl rfl)) $$ [HO CrB AtB]
  · isplitr; · iexact Hrec
    isplitl [HO]; · iexact HO
    isplitl [CrB]; · iexact CrB
    iexact AtB
  iintro ⟨HO, HzB, Hgot⟩
  ihave Hgot := (Entails.of_eq (show pay m c bar = (bigSepL heads (two fun x => iprop(∃ f, dstPts (ypeer c) x f)) : sProp 𝕄) from bigSep_pairs _)) $$ Hgot
  ihave Hs := (src_two m c) $$ [HsK HsV]
  · isplitl [HsK]; · iexact HsK
    iexact HsV
  -- the copies of the keys and values
  iapply (wp_then (wp_sendLoop m K c)) $$ [HO Hs Hgot TkS TkR]
  · isplitl [HO]
    · isplitr; · iexact Hrec
      iexact HO
    rw [sendNeeds_eq]
    isplitl [Hs]; · iexact Hs
    isplitl [Hgot]; · iexact Hgot
    isplitl [TkS]; · iexact TkS
    iexact TkR
  iintro ⟨⟨-, HO⟩, CrS⟩
  -- the barrier with the partner along the first axis, signalled
  ihave Hout := (out_give m c) $$ Hout
  icases Hout with ⟨Hout, Hgive⟩
  iapply (wp_then (wp_signal_cell m K c _ xbar rfl (dev18_eq c) rfl (oList heads))) $$ [HO TkX Hgive]
  · isplitr; · iexact Hrec
    isplitl [HO]; · iexact HO
    isplitl [TkX]; · iexact TkX
    iexact Hgive
  iintro HO
  -- the heads against the device's own keys
  iapply (wp_then (wp_localLoop m c)) $$ [Hk Hv Hq Hla Hoa]
  · iapply (localInv_intro m c)
    isplitl [Hk]; · iexact Hk
    isplitl [Hv]; · iexact Hv
    isplitl [Hq]; · iexact Hq
    isplitl [Hla]; · iexact Hla
    iexact Hoa
  unfold localInv
  iintro ⟨Hk, Hv, Hinv⟩
  -- the rest, by heads: what the other device's keys and values need
  ihave Hneeds := (Entails.of_eq (recvNeeds_cons c)) $$ [CrR AtR]
  · isplitl [CrR]; · iexact CrR
    iexact AtR
  icases Hneeds with ⟨⟨⟨CrK, CrV⟩, AtK, AtV⟩, Hrecv⟩
  iapply (wp_then (wp_recvStep m K c 0 false heads)) $$ [HO CrK AtK]
  · isplitr; · iexact Hrec
    isplitl [HO]; · iexact HO
    isplitl [CrK]; · iexact CrK
    iexact AtK
  iintro ⟨HO, HzK, HdK⟩
  iapply (wp_then (wp_recvStep m K c 0 true heads)) $$ [HO CrV AtV]
  · isplitr; · iexact Hrec
    isplitl [HO]; · iexact HO
    isplitl [CrV]; · iexact CrV
    iexact AtV
  iintro ⟨HO, HzV, HdV⟩
  iapply (wp_then (wp_barWait m K c xbar (oList heads) o_lv rfl rfl)) $$ [HO CrX AtX]
  · isplitr; · iexact Hrec
    isplitl [HO]; · iexact HO
    isplitl [CrX]; · iexact CrX
    iexact AtX
  iintro ⟨HO, HzX, Hgot⟩
  ihave Hgot := (Entails.of_eq (show pay m c xbar = (bigSepL heads (fun j => iprop(∃ f, outPts (xpeer c) c j f)) : sProp 𝕄) from bigSep_heads _)) $$ Hgot
  ihave Hneeds := (Entails.of_eq (outNeeds_cons c)) $$ [Hout Hgot TkOS TkOR]
  · isplitl [Hout]; · iexact Hout
    isplitl [Hgot]; · iexact Hgot
    isplitl [TkOS]; · iexact TkOS
    iexact TkOR
  icases Hneeds with ⟨⟨Hs, Hd, HtS, HtR⟩, Houts⟩
  iapply (wp_then (wp_remoteStep m K c 0 (oList laterHeads))) $$ [HO Hinv HdK HdV Hs Hd HtS HtR]
  · isplitr; · iexact Hrec
    isplitl [HO]; · iexact HO
    isplitl [Hinv]; · iapply (remoteInv_intro m c) $$ Hinv
    isplitl [HdK]; · iexact HdK
    isplitl [HdV]; · iexact HdV
    isplitl [Hs]; · iexact Hs
    isplitl [Hd]; · iexact Hd
    isplitl [HtS]; · iexact HtS
    iexact HtR
  iintro ⟨HO, Hinv, HdK, HdV, CrOS⟩
  -- the other heads against the other device's keys
  iapply (wp_then (wp_remoteLoop m K c)) $$ [HO Hinv Hrecv Houts]
  · rw [laterNeeds_eq]
    isplitl [HO Hinv]
    · isplitr; · iexact Hrec
      isplitl [HO]; · iexact HO
      iexact Hinv
    isplitl [Hrecv]; · iexact Hrecv
    iexact Houts
  iintro ⟨⟨-, HO, Hinv⟩, Hdone⟩
  ihave Hdone := (Entails.of_eq ((headDone_cons m c).trans (headDone_eq m c))) $$ [Hdone HdK HdV HzK HzV CrOS]
  · isplitr [Hdone]
    · isplitl [HdK HdV]
      · isplitl [HdK]; · iexact HdK
        iexact HdV
      isplitl [HzK HzV]
      · isplitl [HzK]; · iexact HzK
        iexact HzV
      iexact CrOS
    iexact Hdone
  icases Hdone with ⟨⟨HdK, HdV⟩, HzR, CrOS⟩
  -- the other device's rows
  iapply (wp_then (wp_oRecvLoop m K c)) $$ [HO CrOR AtOR]
  · rw [oRecvNeeds_eq]
    isplitl [HO]
    · isplitr; · iexact Hrec
      iexact HO
    isplitl [CrOR]; · iexact CrOR
    iexact AtOR
  rw [oRecvDone_eq]
  iintro ⟨⟨-, HO⟩, HzOR, HoX⟩
  -- the copies done
  iapply (wp_last (wp_sentLoop m K c)) $$ [HO CrOS AtOS CrS AtS]
  · rw [sentNeeds_eq]
    isplitl [HO]
    · isplitr; · iexact Hrec
      iexact HO
    isplitl [CrOS AtOS]
    · isplitl [CrOS]; · iexact CrOS
      iexact AtOS
    isplitl [CrS]; · iexact CrS
    iexact AtS
  rw [sentDone_eq]
  iintro ⟨⟨-, HO⟩, ⟨HzOS, HoC⟩, HzS, Hs, Hs'⟩
  unfold bodyPost
  isplitl [HO]; · iexact HO
  isplitl [HzB HzX HzS HzR HzOS HzOR]
  · unfold zeros
    rw [bigSep_cells]
    isplitl [HzB]; · iexact HzB
    isplitl [HzX]; · iexact HzX
    isplitl [HzS]; · iexact HzS
    isplitl [HzR]; · iexact HzR
    isplitl [HzOS]; · iexact HzOS
    iexact HzOR
  isplitl [Hin]; · iexact Hin
  isplitl [HoC HoX]
  · iapply (out_join m c)
    isplitl [HoC]; · iexact HoC
    iexact HoX
  iapply (scratch_join m c)
  isplitl [Hinv]; · iexact Hinv
  isplitl [Hk Hv]
  · isplitl [Hk]; · iexact Hk
    iexact Hv
  isplitl [Hs Hs']
  · isplitl [Hs]; · iexact Hs
    iexact Hs'
  isplitl [HdK]; · iexact HdK
  iexact HdV

end Cert.Attn

end
-- ==== Proof.Run.lean ====
/-
# The launch

What the pipeline's proof asks: what each staging buffer holds before and after, the body's obligation, what the launch deals
each device (its tokens, its credit, its cells' invariants), and from these the run of the whole program on the four devices:
it ends, with the computed contents in each device's arrays and every semaphore at zero.
-/
module

public import proofs.«01_k».proof.Proof.Sound
public import Idealize.ShloMosaic.Lib.Pipeline.CollectiveSegs

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

def ghost (K : Dev nD × CK → ℕ) (c : Dev nD) : sProp 𝕄 :=
  iprop(((bigSep Finset.univ fun x : Dev nD × CK => cellInv ER (Rd m) (K x) (kcell x)) ∗ bigSep Finset.univ fun x : Dev nD × CK => reached ER (kcell x) 0)
    ∗ positions c ∗ payToks c)
/-- What device `c`'s body starts from, besides the buffers. -/
def start (c : Dev nD) : sProp 𝕄 := iprop((∃ K, ghost m K c) ∗ creds c ∗ levAts L lv)
def Φ₀ (c : Dev nD) : sProp 𝕄 := iprop(start m c ∗ scratch c)
def Φ₁ (c : Dev nD) : sProp 𝕄 := iprop(scratch c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stgQ m c
    | ⟨1, _⟩ => stgK m c
    | ⟨2, _⟩ => stgV m c
    | ⟨3, _⟩ => outv m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def atPre (c : Dev nD) : sProp 𝕄 :=
  iprop(Φ₀ m c ∗ (dats m ρ 0 c).owesAt () t0_0.castSucc
    ∗ (∃ d, stg c cc0_stg0_0 ((dats m ρ 0 c).before (0 : Fin 4) t0_0 d)) ∗ (∃ d, stg c cc0_stg1_0 ((dats m ρ 0 c).before (1 : Fin 4) t0_0 d))
    ∗ (∃ d, stg c cc0_stg2_0 ((dats m ρ 0 c).before (2 : Fin 4) t0_0 d)) ∗ ∃ d, stg c cc0_stg3_0 ((dats m ρ 0 c).before (3 : Fin 4) t0_0 d))
set_option maxRecDepth 4000 in
def atPost (c : Dev nD) : sProp 𝕄 :=
  iprop(Φ₁ c ∗ (dats m ρ 0 c).owesAt () t0_0.succ
    ∗ stg c cc0_stg0_0 (stgQ m c) ∗ stg c cc0_stg1_0 (stgK m c) ∗ stg c cc0_stg2_0 (stgV m c) ∗ stg c cc0_stg3_0 (outv m c))

theorem before_q (c : Dev nD) (d) : (dats m ρ 0 c).before (0 : Fin 4) t0_0 d = stgQ m c := by unfold Dat.before; rw [if_pos (fetch0_0 t0_0)]; rfl
theorem before_k (c : Dev nD) (d) : (dats m ρ 0 c).before (1 : Fin 4) t0_0 d = stgK m c := by unfold Dat.before; rw [if_pos (fetch0_1 t0_0)]; rfl
theorem before_v (c : Dev nD) (d) : (dats m ρ 0 c).before (2 : Fin 4) t0_0 d = stgV m c := by unfold Dat.before; rw [if_pos (fetch0_2 t0_0)]; rfl

theorem bodyPre_intro (c : Dev nD) : atPre m ρ c ⊢ iprop(∃ K, bodyPre m K c) := by
  unfold atPre Φ₀ start ghost Dat.owesAt Pipeline.owesWithin
  rw [show (dats m ρ 0 c).owed t0_0.castSucc = O₀ c from rfl]
  simp only [before_q, before_k, before_v]
  iintro ⟨⟨⟨⟨%K, ⟨#HI, #HR⟩, Hp, Ht⟩, Hc, #Hlev⟩, Hs⟩, ⟨%W, -, HO⟩, ⟨%d0, %g0, %h0, Hq⟩, ⟨%d1, %g1, %h1, Hk⟩, ⟨%d2, %g2, %h2, Hv⟩, ⟨%d3, %g3, -, Ho⟩⟩
  subst h0 h1 h2
  iexists K
  unfold bodyPre records inputs Owe
  isplitr
  · isplitr; · iexact HI
    isplitr; · iexact HR
    iexact Hlev
  isplitl [HO]; · iexists W; iexact HO
  isplitl [Hp]; · iexact Hp
  isplitl [Ht]; · iexact Ht
  isplitl [Hc]; · iexact Hc
  isplitl [Hq Hk Hv]
  · isplitl [Hq]; · iexact Hq
    isplitl [Hk]; · iexact Hk
    iexact Hv
  isplitl [Ho]; · iexists g3; iexact Ho
  iexact Hs

theorem atPost_intro (c : Dev nD) : bodyPost m c ⊢ atPost m ρ c := by
  unfold atPost Φ₁ Dat.owesAt Pipeline.owesWithin bodyPost Owe inputs
  rw [show (dats m ρ 0 c).owed t0_0.succ = 0 from rfl]
  iintro ⟨⟨%W, HO⟩, Hz, ⟨Hq, Hk, Hv⟩, Ho, Hs⟩
  isplitl [Hs Hz]
  · isplitl [Hs]; · iexact Hs
    iexact Hz
  isplitl [HO]
  · iexists W
    isplitr; · ipureintro; exact fun _ _ => Or.inl trivial
    iexact HO
  isplitl [Hq]; · iexists _; isplitr; · (ipureintro; rfl)
                  iexact Hq
  isplitl [Hk]; · iexists _; isplitr; · (ipureintro; rfl)
                  iexact Hk
  isplitl [Hv]; · iexists _; isplitr; · (ipureintro; rfl)
                  iexact Hv
  iexists _; isplitr; · (ipureintro; rfl)
  iexact Ho

theorem wp_mono_post (c : Dev nD) (p : Prog (TpuEff nD τ sig (Elt F) Λ₀ .tc) PUnit) {A B B' : sProp 𝕄} (h : A ⊢ WP c p fun _ => B) (hB : B ⊢ B') :
    A ⊢ WP c p fun _ => B' := by
  iintro H
  iapply (wp_last (Q := fun _ => B') h) $$ H
  iintro HB
  iapply hB
  iexact HB

theorem at_body (c : Dev nD) : atPre m ρ c ⊢ WP c printed fun _ => atPost m ρ c := by
  rw [body_eq]
  refine (bodyPre_intro m ρ c).trans ?_
  iintro ⟨%K, H⟩
  iapply (wp_mono_post c body (sound m K c) (atPost_intro m ρ c))
  iexact H

set_option maxRecDepth 40000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact at_body m ρ c

/-! ## The launch -/

theorem ownSemFacts : Pipeline.OwnSemFacts cfg0.spec osem where
  isScoped := by decide
  inj := fun k k' h => Sum.inr.inj (csem_inj h)
  disj := by decide

theorem share_eq (c : Dev nD) (w : Fin cfg0.W) : (dats m ρ 0 c).share w = fullShare := by unfold Dat.share; split <;> rfl

def ringCells : Finset (GSem nD τ sig) := Finset.univ.map ⟨kcell, kcell_inj⟩
/-- Each cell's one duty token. -/
abbrev tokOf (x : Dev nD × CK) : GSem nD τ sig × ℕ × Unit := (kcell x, 0, ())
theorem tokOf_inj : Function.Injective tokOf := fun x y h => kcell_inj (congrArg Prod.fst h)
def ringToks : Finset (GSem nD τ sig × ℕ × Unit) := Finset.univ.map ⟨tokOf, tokOf_inj⟩

def u₀ : UU := (initOf (Pipeline.cells cfgs cellOf_inj) (Pipeline.launchToks cfgs cellOf_inj), initOf ringCells ringToks)

/-- The duty tokens of device `c`'s own cells. -/
def toks (c : Dev nD) : sProp 𝕄 := bigSep Finset.univ fun k : CK => dutyTok ER (cell c k) 0 ()
def reach (c : Dev nD) : sProp 𝕄 := bigSep Finset.univ fun k : CK => reached ER (cell c k) 0

def G (c : Dev nD) : sProp 𝕄 :=
  iprop((bigSep Finset.univ fun k : CK => roundState ER (Rd m) (cell c k) 0) ∗ positions c ∗ reach c ∗ toks c)
def G' (c : Dev nD) : sProp 𝕄 := iprop(∃ K, ghost m K c)

theorem bigSep_pairs_dev (Φ : Dev nD × CK → sProp 𝕄) :
    bigSep Finset.univ Φ = bigSep Finset.univ fun c : Dev nD => bigSep Finset.univ fun k : CK => Φ (c, k) := bigSep_univ_prod Φ

theorem fund : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (cell c k) := by
    unfold ringCells; rw [bigSep_map, bigSep_pairs_dev]; rfl
  have hT : bigSep ringToks (fun x => (dutyTok ER x.1 x.2.1 x.2.2 : sProp 𝕄)) = bigSep Finset.univ fun c : Dev nD => toks c := by
    unfold ringToks; rw [bigSep_map, bigSep_pairs_dev]; rfl
  have hG : bigSep Finset.univ (G m) = iprop((bigSep Finset.univ fun c : Dev nD => bigSep Finset.univ fun k : CK => roundState ER (Rd m) (cell c k) 0)
      ∗ (bigSep Finset.univ fun c : Dev nD => (positions c : sProp 𝕄)) ∗ (bigSep Finset.univ fun c : Dev nD => (reach c : sProp 𝕄)) ∗ bigSep Finset.univ fun c : Dev nD => (toks c : sProp 𝕄)) := by
    rw [← bigSep_sep', ← bigSep_sep', ← bigSep_sep']; rfl
  rw [hG]
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  isplitl [Hst]; · iexact Hst
  isplitl [Hat]; · iexact Hat
  isplitl [Hr]; · iexact Hr
  iexact Htok

theorem unscopedSems0_eq (c : Dev nD) : (unscopedSems0 c : sProp 𝕄) = semVal (cell c bar) 0 := by
  unfold unscopedSems0; rw [bigSep_eq_bigSepL_of_eq [SemLoc.reg barS.sem] (by decide) (by decide)]; rfl

/-- The kernel's own semaphores and the barrier's: all the cells'. -/
theorem zeros_eq (c : Dev nD) :
    (zeros c : sProp 𝕄) = iprop(unscopedSems0 c ∗ Pipeline.ownSems0 (Ix := Unit) (Name := ℕ) (U := UU) (Lvl := ℕ) (Val := Elt F) (τ := τ) osem c) := by
  unfold zeros Pipeline.ownSems0
  rw [bigSep_univ_sum, bigSep_univ_of_subsingleton (i := ()), unscopedSems0_eq]
  rfl

theorem cells_alloc (c : Dev nD) :
    iprop((bigSep Finset.univ fun k : CK => semVal (cell c k) 0) ∗ bigSep Finset.univ fun k : CK => roundState ER (Rd m) (cell c k) 0)
      ⊢ (|={Set.univ}=> bigSep Finset.univ fun k => iprop(∃ κ : ℕ, cellInv ER (Rd m) κ (cell c k)) : sProp 𝕄) := by
  rw [← bigSep_sep']
  exact (bigSep_mono fun k _ => (Rounds.body_intro ER (Rd m) (cell c k)).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (cell c k))) ∗ positions c ∗ reach c ∗ toks c) := by
  unfold G
  iintro ⟨Hos, Hus, Hst, Hrest⟩
  ihave Hv := (Entails.of_eq (zeros_eq (F := F) c).symm) $$ [Hos Hus]
  · isplitl [Hus] <;> iassumption
  imod (cells_alloc m c) $$ [Hv Hst] with Hinv
  · isplitl [Hv]; · unfold zeros; iexact Hv
    iexact Hst
  imodintro
  isplitl [Hinv]; · iexact Hinv
  iexact Hrest

/-- Each token goes to the device that pays with it. -/
theorem toks_around : (bigSep Finset.univ fun c : Dev nD => (toks c : sProp 𝕄)) = bigSep Finset.univ fun c : Dev nD => payToks c := by
  have h1 : (bigSep Finset.univ fun c : Dev nD => (toks c : sProp 𝕄))
      = bigSep Finset.univ fun k : CK => bigSep Finset.univ fun c : Dev nD => dutyTok ER (cell c k) 0 () := bigSep_univ_comm ..
  have h2 : (bigSep Finset.univ fun c : Dev nD => (payToks c : sProp 𝕄))
      = bigSep Finset.univ fun k : CK => bigSep Finset.univ fun c : Dev nD => dutyTok ER (cell (tgt k c) k) 0 () := bigSep_univ_comm ..
  rw [h1, h2]
  exact bigSep_congr fun k _ => bigSep_univ_equiv (swap k) (fun c : Dev nD => (dutyTok ER (cell c k) 0 () : sProp 𝕄))

theorem deal_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

abbrev shared (K : Dev nD × CK → ℕ) : sProp 𝕄 :=
  iprop((bigSep Finset.univ fun x : Dev nD × CK => cellInv ER (Rd m) (K x) (kcell x)) ∗ bigSep Finset.univ fun x : Dev nD × CK => reached ER (kcell x) 0)

theorem ghost_intro (K : Dev nD × CK → ℕ) (c : Dev nD) : iprop(shared m K ∗ positions c ∗ payToks c) ⊢ G' m c := by
  unfold G' ghost
  iintro H
  iexists K
  iexact H

theorem reach_eq : (bigSep Finset.univ (fun c : Dev nD => (reach c : sProp 𝕄))) = bigSep Finset.univ fun x : Dev nD × CK => reached ER (kcell x) 0 :=
  (bigSep_pairs_dev (fun x : Dev nD × CK => (reached ER (kcell x) 0 : sProp 𝕄))).symm

theorem regroup :
    (bigSep Finset.univ fun c : Dev nD => iprop((bigSep Finset.univ fun k => iprop(∃ κ : ℕ, cellInv ER (Rd m) κ (cell c k))) ∗ positions c ∗ reach c ∗ toks c) : sProp 𝕄)
      ⊢ bigSep Finset.univ (G' m) := by
  rw [bigSep_sep', bigSep_sep', bigSep_sep', toks_around, ← bigSep_pairs_dev (fun x : Dev nD × CK => iprop(∃ κ : ℕ, cellInv ER (Rd m) κ (kcell x))),
    reach_eq]
  iintro ⟨HI, Hat, #HR, Htok⟩
  ihave HK := (BI.bigSep_exists_pi Finset.univ (fun (x : Dev nD × CK) (κ : ℕ) => (cellInv ER (Rd m) κ (kcell x) : sProp 𝕄))) $$ HI
  icases HK with ⟨%K, #HI⟩
  iapply (deal_persistent (R := shared m K) fun c _ => ghost_intro m K c)
  isplitr
  · isplitr; · iexact HI
    iexact HR
  iapply (Entails.of_eq (bigSep_sep' Finset.univ (fun c : Dev nD => (positions c : sProp 𝕄)) payToks).symm)
  isplitl [Hat]; · iexact Hat
  iexact Htok

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem cell_eq_iff {a b : Dev nD} {k k' : CK} : Iff (cell a k = cell b k') (a = b ∧ k = k') :=
  ⟨fun h => Prod.mk.inj (kcell_inj (a₁ := (a, k)) (a₂ := (b, k')) h), fun h => by rw [h.1, h.2]⟩

theorem owedL_notMem (c d : Dev nD) (k : CK) : ∀ l : List CK, k ∉ l → owedL d l (cell c k) () = 0
  | [], _ => rfl
  | k' :: l, h => by
    unfold owedL
    rw [Pi.add_apply, Finsupp.add_apply, owedL_notMem c d k l fun h' => h (List.mem_cons_of_mem _ h'), tallyAt_apply,
      if_neg fun h' => h (List.mem_cons.mpr (Or.inl (cell_eq_iff.mp h'.1).2))]
theorem owedL_mem (c d : Dev nD) (k : CK) : ∀ l : List CK, l.Nodup → k ∈ l → owedL d l (cell c k) () = if d = tgt k c then amt k else 0
  | k' :: l, h, hm => by
    unfold owedL
    rw [Pi.add_apply, Finsupp.add_apply, tallyAt_apply]
    by_cases hk : k = k'
    · subst hk
      rw [owedL_notMem c d k l (List.nodup_cons.mp h).1, Nat.zero_add]
      by_cases hd : d = tgt k c
      · subst hd; rw [tgt_tgt, if_pos ⟨rfl, rfl⟩, if_pos rfl]
      · rw [if_neg fun h' => hd (by rw [(cell_eq_iff.mp h'.1).1, tgt_tgt]), if_neg hd]
    · rw [owedL_mem c d k l (List.nodup_cons.mp h).2 ((List.mem_cons.mp hm).resolve_left hk), if_neg (c := cell c k = cell (tgt k' d) k' ∧ () = ()) fun h' => hk (cell_eq_iff.mp h'.1).2, Nat.add_zero]

theorem allOwed_nodup : allOwed.Nodup := by decide

theorem launch_cell (c : Dev nD) (k : CK) (hk : k ∈ allOwed) :
    tallyOn (cell c k) (launchCredit (Pipeline.owing O₀) 0 (cell c k)) = (tallyAt (cell c k) () (amt k) : CellTallies nD τ sig Unit) := by
  unfold tallyAt; refine congrArg _ (Finsupp.ext fun u => ?_); cases u
  rw [Pipeline.launchCredit_owing, Finsupp.single_eq_same, Finset.sum_congr rfl fun d _ => show O₀ d (cell c k) PUnit.unit = _ from owedL_mem c d k allOwed allOwed_nodup hk,
    Finset.sum_ite_eq' Finset.univ (tgt k c) fun _ => amt k, if_pos (Finset.mem_univ _)]

/-- What the launch deals for cell `k`. -/
def cr (c : Dev nD) (k : CK) : sProp 𝕄 := cred (tallyOn (cell c k) (launchCredit (Pipeline.owing O₀) 0 (cell c k)))
theorem cr_eq (c : Dev nD) (k : CK) (hk : k ∈ allOwed) : (cr c k : sProp 𝕄) = cred (tallyAt (cell c k) () (amt k)) := by
  unfold cr; rw [launch_cell c k hk]

theorem cells_creds (c : Dev nD) : (Pipeline.launchCred O₀ c : sProp 𝕄) ⊢ bigSep Finset.univ fun k : CK => cr c k := by
  unfold Pipeline.launchCred
  refine (bigSep_subset (Finset.subset_univ (Finset.univ.map ⟨csem, csem_inj⟩))).trans ?_
  rw [bigSep_map]
  exact bigSep_mono fun k _ => show cr c k ⊢ (cr c k : sProp 𝕄) from BIBase.Entails.rfl

theorem mem_of {k : CK} : (∃ k' ∈ allOwed, k' = k) → k ∈ allOwed := fun ⟨_, h, e⟩ => e ▸ h
theorem bar_mem : bar ∈ allOwed := mem_of (by decide)
theorem xbar_mem : xbar ∈ allOwed := mem_of (by decide)
theorem kvR_mem (x : Fin 8 × Bool) : kvR x ∈ allOwed := mem_of (by revert x; decide)
theorem oR_mem (j : Fin 8) : oR j ∈ allOwed := mem_of (by revert j; decide)

theorem creds_intro (c : Dev nD) : (Pipeline.launchCred O₀ c : sProp 𝕄) ⊢ creds c := by
  refine (cells_creds c).trans ?_
  unfold creds
  rw [bigSep_cells, cr_eq c bar bar_mem, cr_eq c xbar xbar_mem]
  simp only [cr_eq c (kvR _) (kvR_mem _), cr_eq c (oR _) (oR_mem _)]
  iintro ⟨H1, H2, -, H3, -, H4⟩
  isplitl [H1]; · iexact H1
  isplitl [H2]; · iexact H2
  isplitl [H3]; · iexact H3
  iexact H4

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [zeros_eq]
  iintro ⟨Hr, Hb, Ho⟩
  isplitl [Hb]; · iexact Hb
  isplitl [Ho]; · iexact Ho
  iexact Hr

theorem stage_lv (c : Dev nD) (w : Fin cfg0.W) (s : Fin (cfg0.win w).nbuf) : lv ((c : Thread nD τ), .dma ((cfg0.win w).sem s)) () = 0 := by
  unfold lv
  have h : ofSem (SemLoc.dma ((cfg0.win w).sem s)) = none := by
    unfold ofSem
    exact dif_neg fun ⟨k, hk⟩ => by
      rcases k with ⟨⟩ | k
      · cases hk
      · exact ownSemFacts.disj k w s hk
  rw [show ofSem ((c : Thread nD τ), SemLoc.dma ((cfg0.win w).sem s)).2 = none from h]

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ allOwed fun k hk => by rw [stage_lv]; exact lv_allOwed k hk
    · show _ ⊢ MayWait _ _ () 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 40000 in
/-- From any memory with zero counters, on the four devices and for any float values: every weakly fair run of the program
    ends, with each device's arrays at the computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_in (c : Dev nD) (w : Fin cfg0.W) (hw : (cfg0.win w).isOut = false) :
    finalA m ρ c w = m ((cfg0.win w).arr.view.loc (c : Thread nD τ)) := (dats (F := F) m ρ 0 c).arrAt_in w hw _

end Cert.Attn

end
-- ==== Proof.Ref.lean ====
/-
# The reference's run

The reference is a straight line of host operations on one device: it ends with its result, as written here from the
arguments, and the arguments unchanged.
-/
module

public import proofs.«01_k».proof.Proof.Gen.ReferenceIdeal
public import Idealize.ShloMosaic.Lib.StableHlo.Run
public import Idealize.ShloMosaic.Lib.Quiescent

@[expose] public section

noncomputable section

namespace Cert.Attn.Ref

open Cert.ReferenceIdeal Cert.ReferenceIdeal.Gen
open Idealize.ShloMosaic Idealize.ShloMosaic.TcCoe Idealize.ShloMosaic.StableHlo Idealize.SL.Sem

variable {F : FTy → Type} [FloatOps F]

/-! ## The result, from the arguments -/

/-- The scores, scaled. -/
def scores (q k : FVec F S2x1024x8x64 .bf16) : FVec F S2x8x1024x1024 .f32 :=
  mulf (Host.dotGeneral dot_S2x1024x8x64_S2x1024x8x64_S2x8x1024x1024_3_3_1_1_02_02 none (extf .f32 q bitsLt_bf16_f32) (extf .f32 k bitsLt_bf16_f32))
    (broadcastInDim S2x8x1024x1024 ![] bcast_S_S2x8x1024x1024 (constant S_ .f32 0x3E000000#32))
/-- A value for each query, for each of its keys. -/
def along (x : FVec F S2x8x1024 .f32) : FVec F S2x8x1024x1024 .f32 :=
  broadcastInDim S2x8x1024x1024 ![0, 1, 2, 3] bcast_S2x8x1024x1_S2x8x1024x1024_0_1_2_3 (broadcastInDim S2x8x1024x1 ![0, 1, 2] bcast_S2x8x1024_S2x8x1024x1_0_1_2 x)
/-- The exponentials of the scores less their maximum. -/
def expd (s : FVec F S2x8x1024x1024 .f32) : FVec F S2x8x1024x1024 .f32 :=
  Host.exp (subf s (along (Host.reduce FloatOps.maximumf s (constant S_ .f32 0xFF800000#32) reducesTo_S2x8x1024x1024_S2x8x1024_d3 h_S_)))
/-- The weights. -/
def weights (e : FVec F S2x8x1024x1024 .f32) : FVec F S2x8x1024x1024 .f32 :=
  Host.divf e (along (Host.reduceAdd e (constant S_ .f32 0x00000000#32) reducesTo_S2x8x1024x1024_S2x8x1024_d3 h_S_))
/-- The weighted sum of the values, in the layout of the result. -/
def mixed (v : FVec F S2x1024x8x64 .bf16) (p : FVec F S2x8x1024x1024 .f32) : FVec F S16x64x1024 .bf16 :=
  shapeCast S16x64x1024 (transpose S2x8x64x1024 [0, 2, 3, 1] (truncf .bf16 (transpose S2x1024x8x64 [0, 3, 1, 2]
    (Host.dotGeneral dot_S2x1024x8x64_S2x8x1024x1024_S2x8x64x1024_1_3_3_2_02_01 none (extf .f32 v bitsLt_bf16_f32) p)
    transposes_S2x8x64x1024_S2x1024x8x64_0_3_1_2) bitsLt_bf16_f32) transposes_S2x1024x8x64_S2x8x64x1024_0_2_3_1) shapeCasts_S2x8x64x1024_S16x64x1024
def refOut (q k v : FVec F S2x1024x8x64 .bf16) : FVec F S16x64x1024 .bf16 := mixed v (weights (expd (scores q k)))

/-! ## The run -/

/-- The operations, in order. -/
abbrev ops : List (HloOp τ sig (Elt F)) :=
  [ unary main_arg0 main_v0 ((extf .f32 · bitsLt_bf16_f32) : (⟨S2x1024x8x64, .bf16⟩ : BufTy).Contents (Elt F) → (⟨S2x1024x8x64, .f32⟩ : BufTy).Contents (Elt F)),
    unary main_arg1 main_v1 ((extf .f32 · bitsLt_bf16_f32) : (⟨S2x1024x8x64, .bf16⟩ : BufTy).Contents (Elt F) → (⟨S2x1024x8x64, .f32⟩ : BufTy).Contents (Elt F)),
    unary main_arg2 main_v2 ((extf .f32 · bitsLt_bf16_f32) : (⟨S2x1024x8x64, .bf16⟩ : BufTy).Contents (Elt F) → (⟨S2x1024x8x64, .f32⟩ : BufTy).Contents (Elt F)),
    binary main_v0 main_v1 main_v3 ((fun l r => Host.dotGeneral dot_S2x1024x8x64_S2x1024x8x64_S2x8x1024x1024_3_3_1_1_02_02 none l r) : (⟨S2x1024x8x64, .f32⟩ : BufTy).Contents (Elt F) → (⟨S2x1024x8x64, .f32⟩ : BufTy).Contents (Elt F) → (⟨S2x8x1024x1024, .f32⟩ : BufTy).Contents (Elt F)),
    nullary main_cst (constant S_ .f32 0x3E000000#32),
    unary main_cst main_v4 (broadcastInDim S2x8x1024x1024 ![] bcast_S_S2x8x1024x1024 : (⟨S_, .f32⟩ : BufTy).Contents (Elt F) → (⟨S2x8x1024x1024, .f32⟩ : BufTy).Contents (Elt F)),
    binary main_v3 main_v4 main_v5 (mulf : (⟨S2x8x1024x1024, .f32⟩ : BufTy).Contents (Elt F) → (⟨S2x8x1024x1024, .f32⟩ : BufTy).Contents (Elt F) → (⟨S2x8x1024x1024, .f32⟩ : BufTy).Contents (Elt F)),
    nullary main_cst_0 (constant S_ .f32 0xFF800000#32),
    binary main_v5 main_cst_0 main_v6 ((fun x v => Host.reduce FloatOps.maximumf x v reducesTo_S2x8x1024x1024_S2x8x1024_d3 h_S_) : (⟨S2x8x1024x1024, .f32⟩ : BufTy).Contents (Elt F) → (⟨S_, .f32⟩ : BufTy).Contents (Elt F) → (⟨S2x8x1024, .f32⟩ : BufTy).Contents (Elt F)),
    unary main_v6 main_v7 (broadcastInDim S2x8x1024x1 ![0, 1, 2] bcast_S2x8x1024_S2x8x1024x1_0_1_2 : (⟨S2x8x1024, .f32⟩ : BufTy).Contents (Elt F) → (⟨S2x8x1024x1, .f32⟩ : BufTy).Contents (Elt F)),
    unary main_v7 main_v8 (broadcastInDim S2x8x1024x1024 ![0, 1, 2, 3] bcast_S2x8x1024x1_S2x8x1024x1024_0_1_2_3 : (⟨S2x8x1024x1, .f32⟩ : BufTy).Contents (Elt F) → (⟨S2x8x1024x1024, .f32⟩ : BufTy).Contents (Elt F)),
    binary main_v5 main_v8 main_v9 (subf : (⟨S2x8x1024x1024, .f32⟩ : BufTy).Contents (Elt F) → (⟨S2x8x1024x1024, .f32⟩ : BufTy).Contents (Elt F) → (⟨S2x8x1024x1024, .f32⟩ : BufTy).Contents (Elt F)),
    unary main_v9 main_v10 (Host.exp : (⟨S2x8x1024x1024, .f32⟩ : BufTy).Contents (Elt F) → (⟨S2x8x1024x1024, .f32⟩ : BufTy).Contents (Elt F)),
    nullary main_cst_1 (constant S_ .f32 0x00000000#32),
    binary main_v10 main_cst_1 main_v11 ((fun x v => Host.reduceAdd x v reducesTo_S2x8x1024x1024_S2x8x1024_d3 h_S_) : (⟨S2x8x1024x1024, .f32⟩ : BufTy).Contents (Elt F) → (⟨S_, .f32⟩ : BufTy).Contents (Elt F) → (⟨S2x8x1024, .f32⟩ : BufTy).Contents (Elt F)),
    unary main_v11 main_v12 (broadcastInDim S2x8x1024x1 ![0, 1, 2] bcast_S2x8x1024_S2x8x1024x1_0_1_2 : (⟨S2x8x1024, .f32⟩ : BufTy).Contents (Elt F) → (⟨S2x8x1024x1, .f32⟩ : BufTy).Contents (Elt F)),
    unary main_v12 main_v13 (broadcastInDim S2x8x1024x1024 ![0, 1, 2, 3] bcast_S2x8x1024x1_S2x8x1024x1024_0_1_2_3 : (⟨S2x8x1024x1, .f32⟩ : BufTy).Contents (Elt F) → (⟨S2x8x1024x1024, .f32⟩ : BufTy).Contents (Elt F)),
    binary main_v10 main_v13 main_v14 (Host.divf : (⟨S2x8x1024x1024, .f32⟩ : BufTy).Contents (Elt F) → (⟨S2x8x1024x1024, .f32⟩ : BufTy).Contents (Elt F) → (⟨S2x8x1024x1024, .f32⟩ : BufTy).Contents (Elt F)),
    binary main_v2 main_v14 main_v15 ((fun l r => Host.dotGeneral dot_S2x1024x8x64_S2x8x1024x1024_S2x8x64x1024_1_3_3_2_02_01 none l r) : (⟨S2x1024x8x64, .f32⟩ : BufTy).Contents (Elt F) → (⟨S2x8x1024x1024, .f32⟩ : BufTy).Contents (Elt F) → (⟨S2x8x64x1024, .f32⟩ : BufTy).Contents (Elt F)),
    unary main_v15 main_v16 ((transpose S2x1024x8x64 [0, 3, 1, 2] · transposes_S2x8x64x1024_S2x1024x8x64_0_3_1_2) : (⟨S2x8x64x1024, .f32⟩ : BufTy).Contents (Elt F) → (⟨S2x1024x8x64, .f32⟩ : BufTy).Contents (Elt F)),
    unary main_v16 main_v17 ((truncf .bf16 · bitsLt_bf16_f32) : (⟨S2x1024x8x64, .f32⟩ : BufTy).Contents (Elt F) → (⟨S2x1024x8x64, .bf16⟩ : BufTy).Contents (Elt F)),
    unary main_v17 main_v18 ((transpose S2x8x64x1024 [0, 2, 3, 1] · transposes_S2x1024x8x64_S2x8x64x1024_0_2_3_1) : (⟨S2x1024x8x64, .bf16⟩ : BufTy).Contents (Elt F) → (⟨S2x8x64x1024, .bf16⟩ : BufTy).Contents (Elt F)),
    reshape main_v18 main_v19 (rfl : (.bf16 : EltTy) = .bf16) shapeCasts_S2x8x64x1024_S16x64x1024 ]

theorem main_eq (c : Dev nD) : main (F := F) c = seq ops := rfl

theorem ops_sub : (ops : List (HloOp τ sig (Elt F))).Forall fun op => op.bufs ⊆ tcRefs τ sig :=
  ⟨unary_bufs_sub .., unary_bufs_sub .., unary_bufs_sub .., binary_bufs_sub .., nullary_bufs_sub .., unary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., unary_bufs_sub .., unary_bufs_sub .., reshape_bufs_sub ..⟩

theorem out_eq (V : Valuation τ sig (Elt F)) :
    after ops V (main_v19 : DevRef τ sig) = refOut (V (main_arg0 : DevRef τ sig)) (V (main_arg1 : DevRef τ sig)) (V (main_arg2 : DevRef τ sig)) := by
  after_results
  rfl
theorem arg0_eq (V : Valuation τ sig (Elt F)) : after ops V (main_arg0 : DevRef τ sig) = V (main_arg0 : DevRef τ sig) := by after_results
theorem arg1_eq (V : Valuation τ sig (Elt F)) : after ops V (main_arg1 : DevRef τ sig) = V (main_arg1 : DevRef τ sig) := by after_results
theorem arg2_eq (V : Valuation τ sig (Elt F)) : after ops V (main_arg2 : DevRef τ sig) = V (main_arg2 : DevRef τ sig) := by after_results

theorem scopedRefs_eq : (Finset.univ.filter fun b : Ref sig .tc => b.isScoped) = ∅ := by decide
theorem scopedSems_eq : (Finset.univ.filter fun sm : SemLoc sig => sm.isScoped .tc) = ∅ := by decide

/-- Every weakly fair run ends with the result in its buffer, the arguments as they were, and every semaphore at zero. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v19)
          = refOut (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨(h c main_v19).trans (out_eq _), (h c main_arg0).trans (arg0_eq _), (h c main_arg1).trans (arg1_eq _),
      (h c main_arg2).trans (arg2_eq _)⟩)
    (run_seq scopedRefs_eq scopedSems_eq defs main (fun _ => ops) main_eq (fun _ => ops_sub) m ρ)

end Cert.Attn.Ref

end
-- ==== Proof.Frames.lean ====
/-
# The frames

Read off the runs: both programs end, with their arguments unchanged and every semaphore at zero.
-/
module

public import proofs.«01_k».proof.Defs
public import proofs.«01_k».proof.Proof.Run
public import proofs.«01_k».proof.Proof.Ref
public import proofs.«01_k».proof.Proof.Gen.Kernel
public import proofs.«01_k».proof.Proof.Gen.Pre_finite_KernelIdeal
public import proofs.«01_k».proof.Proof.Gen.Pre_finite_ReferenceIdeal

@[expose] public section

noncomputable section

namespace Cert.Attn

open Idealize.ShloMosaic Idealize.SL.Sem

/-- What the run leaves of the arguments, for any float values. -/
theorem run_args {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h =>
    ⟨fun c => ⟨(h.1 c (0 : Fin 4)).trans (finalA_in m ρ c (0 : Fin 4) rfl), (h.1 c (1 : Fin 4)).trans (finalA_in m ρ c (1 : Fin 4) rfl),
      (h.1 c (2 : Fin 4)).trans (finalA_in m ρ c (2 : Fin 4) rfl)⟩, h.2⟩) (run_main m ρ)

set_option maxRecDepth 100000 in
/-- The two programs have the same text, so their kernels' table is the same. -/
theorem table_eq {F : FTy → Type} [FloatOps F] : Cert.Kernel.defs₀ (F := F) = Cert.KernelIdeal.defs₀ (F := F) := by
  unfold Cert.Kernel.defs₀ Cert.KernelIdeal.defs₀
  congr 1
  funext l a
  match l, a with
  | 0, a => rfl

set_option maxRecDepth 100000 in
theorem defs_eq {F : FTy → Type} [FloatOps F] : Cert.Kernel.defs (F := F) = Cert.KernelIdeal.defs (F := F) :=
  congrArg (Pipeline.defs Cert.KernelIdeal.pcfgs) table_eq

set_option maxRecDepth 100000 in
theorem frame_kernel : Cert.quiescent_Kernel := fun m ρ _ => by
  have h := run_args (F := Bits) m ρ
  rw [← defs_eq] at h
  exact h
theorem frame_ideal : Cert.quiescent_KernelIdeal := fun m ρ _ => run_args (F := Ideal) m ρ
theorem frame_ideal_pre : Cert.quiescent_KernelIdeal_pre_finite_KernelIdeal := fun m ρ _ => frame_ideal m ρ trivial

theorem frame_ref : Cert.quiescent_ReferenceIdeal := fun m ρ _ =>
  (θ_run Cert.ReferenceIdeal.defs _ _).mono (fun _ h => ⟨fun c => (h c).2, sem_eq_zero_of_no_sems (by decide) _⟩) (Ref.run_main (F := Ideal) m ρ)
theorem frame_ref_pre : Cert.quiescent_ReferenceIdeal_pre_finite_ReferenceIdeal := fun m ρ _ => frame_ref m ρ trivial

end Cert.Attn

end
-- ==== Proof.HeadValue.lean ====
/-
# What the kernel computes of one head, over the extended reals

The products, the exponentials, the sums and the quotient, read at an index.
-/
module

public import proofs.«01_k».proof.Proof.Body
public import Idealize.ShloMosaic.PureOps.Ideal.Laws
public import Idealize.ShloMosaic.Lib.ValueIdx
public import Idealize.ShloMosaic.Lib.IdealHost
public import Idealize.ShloMosaic.Lib.Pipeline.Value

@[expose] public section

noncomputable section

namespace Cert.Attn

open Cert.KernelIdeal Cert.KernelIdeal.Gen
open Idealize.ShloMosaic Idealize.ShloMosaic.ValueIdx
open scoped BigOperators

/-! ## The three products -/

/-- Keys by queries: the sum over the head's coordinates. -/
theorem scores_apply (l r : FVec Ideal S64x512 .bf16) (t s : Fin 512) :
    matmul dot_S64x512_S64x512_S512x512_0_0_1_1_n_n none l r (constant S512x512 .f32 0x00000000#32) (ix2 t s)
      = ∑ d : Fin 64, l (ix2 d t) * r (ix2 d s) := by
  let D := dot_S64x512_S64x512_S512x512_0_0_1_1_n_n
  simp only [matmul]
  rw [Ideal.matmul_constant_zero_apply, ← Equiv.sum_comp (contrEquiv1 D 64 rfl rfl).symm]
  refine Finset.sum_congr rfl fun d _ => ?_
  have h := contrEquiv1_symm_val D 64 rfl rfl d
  congr 2 <;> (funext a; apply Fin.ext; match a with | ⟨0, _⟩ => exact h | ⟨1, _⟩ => rfl)

/-- The weights by a vector: the sum over the keys. -/
theorem colsum_apply (p : FVec Ideal S512x512 .bf16) (w : FVec Ideal S512 .bf16) (s : Fin 512) :
    matmul dot_S512x512_S512_S512_0_0_1_n_n_n none p w (constant S512 .f32 0x00000000#32) (ix1 s)
      = ∑ t : Fin 512, p (ix2 t s) * w (ix1 t) := by
  let D := dot_S512x512_S512_S512_0_0_1_n_n_n
  simp only [matmul]
  rw [Ideal.matmul_constant_zero_apply, ← Equiv.sum_comp (contrEquiv1 D 512 rfl rfl).symm]
  refine Finset.sum_congr rfl fun t _ => ?_
  have h := contrEquiv1_symm_val D 512 rfl rfl t
  congr 2
  · funext a; apply Fin.ext; match a with | ⟨0, _⟩ => exact h | ⟨1, _⟩ => rfl
  · funext a; apply Fin.ext; match a with | ⟨0, _⟩ => exact h

/-- Values by weights: the sum over the keys. -/
theorem mix_apply (v : FVec Ideal S64x512 .bf16) (p : FVec Ideal S512x512 .bf16) (d : Fin 64) (s : Fin 512) :
    matmul dot_S64x512_S512x512_S64x512_1_0_0_1_n_n none v p (constant S64x512 .f32 0x00000000#32) (ix2 d s)
      = ∑ t : Fin 512, v (ix2 d t) * p (ix2 t s) := by
  let D := dot_S64x512_S512x512_S64x512_1_0_0_1_n_n
  simp only [matmul]
  rw [Ideal.matmul_constant_zero_apply, ← Equiv.sum_comp (contrEquiv1 D 512 rfl rfl).symm]
  refine Finset.sum_congr rfl fun t _ => ?_
  have h := contrEquiv1_symm_val D 512 rfl rfl t
  congr 2
  · funext a; apply Fin.ext; match a with | ⟨0, _⟩ => rfl | ⟨1, _⟩ => exact h
  · funext a; apply Fin.ext; match a with | ⟨0, _⟩ => exact h | ⟨1, _⟩ => rfl

/-! ## Casts between a head's shapes -/

theorem dropHead {α : Type} (x : S1x64x512.Idx → α) (h : S1x64x512.ShapeCasts S64x512) (d : Fin 64) (s : Fin 512) :
    shapeCast S64x512 x h (ix2 d s) = x (ix3 0 d s) := by
  refine (shapeCast_dropUnit_apply ![64, 512] x h (ix2 d s)).trans (congrArg x ?_)
  funext a; match a with | ⟨0, _⟩ => rfl | ⟨1, _⟩ => rfl | ⟨2, _⟩ => rfl
theorem addHead {α : Type} (x : S64x512.Idx → α) (h : S64x512.ShapeCasts S1x64x512) (d : Fin 64) (s : Fin 512) :
    shapeCast S1x64x512 x h (ix3 0 d s) = x (ix2 d s) := by
  refine (shapeCast_addUnit_apply ![64, 512] x h (ix3 0 d s)).trans (congrArg x ?_)
  funext a; match a with | ⟨0, _⟩ => rfl | ⟨1, _⟩ => rfl
theorem dropRow {α : Type} (x : S1x512.Idx → α) (h : S1x512.ShapeCasts S512) (s : Fin 512) :
    shapeCast S512 x h (ix1 s) = x (ix2 0 s) := by
  refine (shapeCast_dropUnit_apply ![512] x h (ix1 s)).trans (congrArg x ?_)
  funext a; match a with | ⟨0, _⟩ => rfl | ⟨1, _⟩ => rfl
theorem addRow {α : Type} (x : S512.Idx → α) (h : S512.ShapeCasts S1x512) (s : Fin 512) :
    shapeCast S1x512 x h (ix2 0 s) = x (ix1 s) := by
  refine (shapeCast_addUnit_apply ![512] x h (ix2 0 s)).trans (congrArg x ?_)
  funext a; match a with | ⟨0, _⟩ => rfl
/-- One row for every coordinate of the head. -/
theorem overHead {α : Type} (x : S1x512.Idx → α) (h : S1x512.Broadcasts S64x512) (d : Fin 64) (s : Fin 512) :
    broadcastTo S64x512 x h (ix2 d s) = x (ix2 0 s) := by
  refine broadcastTo_apply x h (ix2 d s) (ix2 0 s) fun a => ?_
  match a with | ⟨0, _⟩ => rfl | ⟨1, _⟩ => rfl

/-! ## One head -/

/-- The exponential of a key's product with a query. -/
def expKQ (k q : S1x64x512.Idx → EReal) (t s : Fin 512) : EReal := Ideal.exp (∑ d : Fin 64, k (ix3 0 d t) * q (ix3 0 d s))

theorem ones_apply (t : Fin 512) : (k0_pay5 : FVec Ideal S512 .bf16) (ix1 t) = 1 := Ideal.ofBits_one_bf16

theorem expLoc_apply (k q : Vec Ideal S1x64x512 .bf16) (t s : Fin 512) : k0_pay6 k q (ix2 t s) = expKQ k q t s := by
  refine congrArg Ideal.exp ((scores_apply _ _ t s).trans (Finset.sum_congr rfl fun d _ => ?_))
  rw [dropHead, dropHead]

/-- The sum of a head's exponentials over the device's own keys. -/
theorem sumLoc_apply (k q : Vec Ideal S1x64x512 .bf16) (s : Fin 512) :
    k0_pay7 k0_pay5 k q (ix2 0 s) = ∑ t : Fin 512, expKQ k q t s := by
  refine (addRow _ _ s).trans ((colsum_apply _ _ s).trans (Finset.sum_congr rfl fun t _ => ?_))
  rw [expLoc_apply, ones_apply, mul_one]

/-- The values weighted by them. -/
theorem mixLoc_apply (k q v : Vec Ideal S1x64x512 .bf16) (d : Fin 64) (s : Fin 512) :
    k0_pay8 k q v (ix3 0 d s) = ∑ t : Fin 512, v (ix3 0 d t) * expKQ k q t s := by
  refine (addHead _ _ d s).trans ((mix_apply _ _ d s).trans (Finset.sum_congr rfl fun t _ => ?_))
  rw [expLoc_apply, dropHead]

/-- The head's result: the sums over both devices' keys, and their quotient. -/
theorem headOut_apply (k q v : Vec Ideal S1x64x512 .bf16) (o : Vec Ideal S1x64x512 .f32) (l : Vec Ideal S1x512 .f32) (d : Fin 64) (s : Fin 512) :
    headOut k q v o l (ix3 0 d s)
      = Ideal.div (o (ix3 0 d s) + ∑ t : Fin 512, v (ix3 0 d t) * expKQ k q t s) (l (ix2 0 s) + ∑ t : Fin 512, expKQ k q t s) := by
  show shapeCast S1x64x512 (k0_pay47 k0_pay5 k q v o l) shapeCasts_S64x512_S1x64x512 (ix3 0 d s) = _
  rw [addHead]
  show Ideal.div (shapeCast S64x512 o shapeCasts_S1x64x512_S64x512 (ix2 d s)
      + matmul dot_S64x512_S512x512_S64x512_1_0_0_1_n_n none (shapeCast S64x512 v shapeCasts_S1x64x512_S64x512) (k0_pay6 k q) (constant S64x512 .f32 0x00000000#32) (ix2 d s))
    (broadcastTo S64x512 (shapeCast S1x512 (addf (shapeCast S512 l shapeCasts_S1x512_S512)
      (matmul dot_S512x512_S512_S512_0_0_1_n_n_n none (k0_pay6 k q) k0_pay5 (constant S512 .f32 0x00000000#32))) shapeCasts_S512_S1x512) broadcasts_S1x512_S64x512 (ix2 d s)) = _
  rw [overHead, addRow, mix_apply, dropHead, addf_apply, dropRow, colsum_apply]
  congr 2
  · exact Finset.sum_congr rfl fun t _ => by rw [expLoc_apply, dropHead]
  · exact Finset.sum_congr rfl fun t _ => by rw [expLoc_apply, ones_apply, mul_one]

end Cert.Attn

end
-- ==== Proof.KernelValue.lean ====
/-
# What the kernel computes, over the extended reals

What the staged arrays hold, what the prepared copies hold at an index, the contents the result's array ends with, and each
element of it as a quotient of sums over the device's own keys and its partner's.
-/
module

public import proofs.«01_k».proof.Proof.HeadValue
public import proofs.«01_k».proof.Proof.Run

@[expose] public section

noncomputable section

namespace Cert.Attn

open Cert.KernelIdeal Cert.KernelIdeal.Gen
open Idealize.ShloMosaic Idealize.ShloMosaic.ValueIdx
open Idealize.ShloMosaic.TcCoe
open scoped BigOperators

variable (m : (ℓ : Loc nD τ sig) → Buf (Elt Ideal) ℓ) (ρ : Dev nD → PrngReg)

/-! ## The arrays -/

/-- The arguments on a device, as numbers. -/
abbrev argQ (c : Dev nD) : S2x512x8x64.Idx → EReal := m ((c : Thread nD τ).loc main_arg0)
abbrev argK (c : Dev nD) : S2x512x8x64.Idx → EReal := m ((c : Thread nD τ).loc main_arg1)
abbrev argV (c : Dev nD) : S2x512x8x64.Idx → EReal := m ((c : Thread nD τ).loc main_arg2)

theorem stgQ_eq (c : Dev nD) : stgQ m c = argQ m c :=
  Memref.read_access_unit_zero (Elt Ideal) main_arg0 (funext fun _ => Nat.zero_mul _) _ _
theorem stgK_eq (c : Dev nD) : stgK m c = argK m c :=
  Memref.read_access_unit_zero (Elt Ideal) main_arg1 (funext fun _ => Nat.zero_mul _) _ _
theorem stgV_eq (c : Dev nD) : stgV m c = argV m c :=
  Memref.read_access_unit_zero (Elt Ideal) main_arg2 (funext fun _ => Nat.zero_mul _) _ _

theorem flushed_out (c : Dev nD) (t : Fin cfg0.N) : (dats m ρ 0 c).flushed (3 : Fin 4) t = ((cfg0.win (3 : Fin 4)).blk t).view.read (Elt Ideal) (outv m c) := by
  rw [fin_N0 t]
  exact (Memref.read_access_unit_zero (Elt Ideal) main_v1 (funext fun _ => Nat.zero_mul _) _ (outv m c)).symm

/-- The result's array ends with the rows computed. -/
theorem finalA_out (c : Dev nD) : finalA m ρ c (3 : Fin 4) = outv m c :=
  (dats m ρ 0 c).arrAt_eq_of_cover (3 : Fin 4) (outv m c) (fun t _ => flushed_out m ρ c t) fun i =>
    ⟨t0_0, flush0_3 t0_0, by
      show i ∈ ((View.whole main_v1).slice (win0_3.rect t0_0)).set
      rw [View.set_slice_whole, Rect.mem_set_unit]
      intro a
      refine ⟨?_, ?_⟩
      · show 0 * _ ≤ (i a : ℕ); omega
      · show (i a : ℕ) < 0 * _ + _; rw [Nat.zero_mul, Nat.zero_add]; exact (i a).isLt⟩

/-! ## The prepared copies -/

/-- A batch entry of an array, scaled and transposed. -/
theorem prepared_apply (x : Vec Ideal S1x512x8x64 .bf16) (w : Ideal .bf16) (h : Fin 8) (d : Fin 64) (s : Fin 512) :
    transpose S8x64x512 [1, 2, 0] (mulf (shapeCast S512x8x64 x shapeCasts_S1x512x8x64_S512x8x64 : FVec Ideal S512x8x64 .bf16) (broadcast S512x8x64 w))
        transposes_S512x8x64_p1_2_0_S8x64x512 (ix3 h d s)
      = (x (ix4 0 s h d) : EReal) * w := by
  rw [transpose_apply _ _ _ (ix3 h d s) (ix3 s h d) (fun a => by match a with | ⟨0, _⟩ => rfl | ⟨1, _⟩ => rfl | ⟨2, _⟩ => rfl), mulf_apply]
  refine congrArg (fun z : EReal => z * w) ?_
  refine (shapeCast_dropUnit_apply ![512, 8, 64] x shapeCasts_S1x512x8x64_S512x8x64 (ix3 s h d)).trans (congrArg x ?_)
  funext a; match a with | ⟨0, _⟩ => rfl | ⟨1, _⟩ => rfl | ⟨2, _⟩ => rfl | ⟨3, _⟩ => rfl

/-- The bf16 pattern of an eighth, the scale. -/
theorem eighth_bf16 : Ideal.ofBits .bf16 0x3E00#16 = (((1 : ℝ) / 8 : ℝ) : EReal) := by
  simp [Ideal.ofBits, Ideal.ieee, -EReal.coe_mul]; norm_num

/-- The batch entry a device computes. -/
def xOf (c : Dev nD) : Fin 2 := ⟨c.val / 2, by have h : c.val < 4 := c.isLt; omega⟩

theorem batchOf_apply (c : Dev nD) (f : Vec Ideal S2x512x8x64 .bf16) (s : Fin 512) (h : Fin 8) (d : Fin 64) :
    batchOf c f (ix4 0 s h d) = f (ix4 (xOf c) s h d) := by
  refine congrArg f ?_
  have h0 := k0_off1_eq c
  funext a; apply Fin.ext
  show k0_off1 c a + 1 * _ = _
  rw [h0]
  match a with
  | ⟨0, _⟩ => rfl
  | ⟨1, _⟩ => show 0 + 1 * s.val = s.val; omega
  | ⟨2, _⟩ => show 0 + 1 * h.val = h.val; omega
  | ⟨3, _⟩ => show 0 + 1 * d.val = d.val; omega

theorem headOf_apply (f : Vec Ideal S8x64x512 .bf16) (j : Fin 8) (d : Fin 64) (s : Fin 512) : headOf f j (ix3 0 d s) = f (ix3 j d s) := by
  refine congrArg f ?_
  funext a; apply Fin.ext
  match a with
  | ⟨0, _⟩ => rfl
  | ⟨1, _⟩ => show 0 + 1 * d.val = d.val; omega
  | ⟨2, _⟩ => show 0 + 1 * s.val = s.val; omega

theorem qHead_apply (c : Dev nD) (j : Fin 8) (d : Fin 64) (s : Fin 512) :
    headOf (qVal m c) j (ix3 0 d s) = argQ m c (ix4 (xOf c) s j d) * (((1 : ℝ) / 8 : ℝ) : EReal) := by
  rw [headOf_apply]; unfold qVal k0_pay1
  rw [shapeCast_self, prepared_apply, batchOf_apply, stgQ_eq]
  exact congrArg _ eighth_bf16
theorem kHead_apply (c : Dev nD) (j : Fin 8) (d : Fin 64) (s : Fin 512) :
    headOf (kVal m c) j (ix3 0 d s) = argK m c (ix4 (xOf c) s j d) := by
  rw [headOf_apply]; unfold kVal k0_pay2
  rw [shapeCast_self, prepared_apply, batchOf_apply, stgK_eq]
  exact (congrArg _ Ideal.ofBits_one_bf16).trans (mul_one _)
theorem vHead_apply (c : Dev nD) (j : Fin 8) (d : Fin 64) (s : Fin 512) :
    headOf (vVal m c) j (ix3 0 d s) = argV m c (ix4 (xOf c) s j d) := by
  rw [headOf_apply]; unfold vVal k0_pay4 k0_pay3
  rw [shapeCast_self, prepared_apply, batchOf_apply, stgV_eq]
  exact (congrArg _ Ideal.ofBits_one_bf16).trans (mul_one _)

/-- Head `j` on device `c`, as a quotient of the sums over its keys and its partner's. -/
theorem outRow_apply (c : Dev nD) (j : Fin 8) (d : Fin 64) (s : Fin 512) :
    outRow m c j (ix3 0 d s)
      = Ideal.div
          (∑ t, headOf (vVal m c) j (ix3 0 d t) * expKQ (headOf (kVal m c) j) (headOf (qVal m c) j) t s
            + ∑ t, headOf (vVal m (ypeer c)) j (ix3 0 d t) * expKQ (headOf (kVal m (ypeer c)) j) (headOf (qVal m c) j) t s)
          (∑ t, expKQ (headOf (kVal m c) j) (headOf (qVal m c) j) t s + ∑ t, expKQ (headOf (kVal m (ypeer c)) j) (headOf (qVal m c) j) t s) := by
  unfold outRow oLoc lLoc
  rw [headOut_apply, mixLoc_apply, sumLoc_apply]

end Cert.Attn

end
-- ==== Proof.Soft.lean ====
/-
# Softmax over the extended reals

A softmax with the maximum subtracted, against one without it: with real scores both weigh the values by
the same positive reals, whatever the values are.
-/
module

public import Idealize.ShloMosaic.PureOps.Ideal
public import Mathlib.Data.EReal.Operations
public import Mathlib.Data.EReal.Inv

@[expose] public section

noncomputable section

namespace Cert.Attn

open Idealize.ShloMosaic
open scoped BigOperators

/-- A factor that is a nonnegative real comes out of a sum of extended reals. -/
theorem sum_mul_real {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- A sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient by a positive real is the product with its inverse. -/
theorem div_real (x : EReal) {b : ℝ} (hb : 0 < b) : Ideal.div x (b : EReal) = x * ((b⁻¹ : ℝ) : EReal) := by
  unfold Ideal.div
  rw [if_neg (by exact_mod_cast hb.ne'), EReal.coe_inv]

/-- The maximum of finitely many reals, from minus infinity, is a real. -/
theorem max_real {ι : Type} (s : Finset ι) (hs : s.Nonempty) (x : ι → ℝ) :
    ∃ M : ℝ, s.fold max (⊥ : EReal) (fun i => (x i : EReal)) = (M : EReal) := by
  obtain ⟨i, -, hi⟩ := Finset.exists_mem_eq_sup s hs (fun i => (x i : EReal))
  exact ⟨x i, hi⟩

/-- The softmax's weighted sum: with the scores less any real, and the weights divided before the sum, or plain with
the sum divided. -/
theorem softmax_eq {κ : Type} [Fintype κ] [Nonempty κ] (x : κ → ℝ) (M : ℝ) (v : κ → EReal) :
    ∑ k, v k * Ideal.div (Ideal.exp ((x k : EReal) - (M : EReal))) (∑ k', Ideal.exp ((x k' : EReal) - (M : EReal)))
      = Ideal.div (∑ k, v k * Ideal.exp (x k : EReal)) (∑ k, Ideal.exp (x k : EReal)) := by
  have hE : 0 < ∑ k, Real.exp (x k) := Finset.sum_pos (fun k _ => Real.exp_pos _) Finset.univ_nonempty
  have hS : 0 < ∑ k, Real.exp (x k - M) := Finset.sum_pos (fun k _ => Real.exp_pos _) Finset.univ_nonempty
  have hM : ∑ k, Real.exp (x k - M) = (∑ k, Real.exp (x k)) * Real.exp (-M) := by
    rw [Finset.sum_mul]
    exact Finset.sum_congr rfl fun k _ => by rw [← Real.exp_add, sub_eq_add_neg]
  have e : ∀ k, Ideal.exp ((x k : EReal) - (M : EReal)) = ((Real.exp (x k - M) : ℝ) : EReal) := fun k => by
    rw [← EReal.coe_sub]; rfl
  have e' : ∀ k, Ideal.exp (x k : EReal) = ((Real.exp (x k) : ℝ) : EReal) := fun k => rfl
  simp only [e, e', ← coe_sum]
  rw [div_real _ hE, sum_mul_real _ _ (inv_nonneg.2 hE.le)]
  refine Finset.sum_congr rfl fun k _ => ?_
  rw [div_real _ hS, mul_assoc, ← EReal.coe_mul, ← EReal.coe_mul, hM]
  congr 2
  rw [sub_eq_add_neg, Real.exp_add, mul_inv]
  have := (Real.exp_pos (-M)).ne'
  field_simp

end Cert.Attn

end
-- ==== Proof.RefValue.lean ====
/-
# What the reference computes, over the extended reals

Its result at an index, as sums over the keys; and, where the scores are reals, without the maximum.
-/
module

public import proofs.«01_k».proof.Proof.Ref
public import proofs.«01_k».proof.Proof.Soft
public import Idealize.ShloMosaic.PureOps.Ideal.Laws
public import Idealize.ShloMosaic.Lib.ValueIdx
public import Idealize.ShloMosaic.Lib.IdealHost
public import Idealize.ShloMosaic.Lib.Pipeline.Value

@[expose] public section

noncomputable section

namespace Cert.Attn.Ref

open Cert.ReferenceIdeal Cert.ReferenceIdeal.Gen
open Idealize.ShloMosaic Idealize.ShloMosaic.ValueIdx
open scoped BigOperators

/-- The f32 pattern of an eighth, the scale. -/
theorem eighth_f32 : Ideal.ofBits .f32 0x3E000000#32 = (((1 : ℝ) / 8 : ℝ) : EReal) := by
  simp [Ideal.ofBits, Ideal.ieee, -EReal.coe_mul]; norm_num
/-- The f32 pattern of minus infinity. -/
theorem minf_f32 : Ideal.ofBits .f32 0xFF800000#32 = ⊥ := by simp [Ideal.ofBits, Ideal.ieee]

/-- The score of query `s` against key `t`, of head `h` of batch entry `b`. -/
def score (q k : S2x1024x8x64.Idx → EReal) (b : Fin 2) (h : Fin 8) (s t : Fin 1024) : EReal :=
  (∑ d : Fin 64, q (ix4 b s h d) * k (ix4 b t h d)) * (((1 : ℝ) / 8 : ℝ) : EReal)

theorem scores_apply (q k : FVec Ideal S2x1024x8x64 .bf16) (b : Fin 2) (h : Fin 8) (s t : Fin 1024) :
    scores q k (ix4 b h s t) = score q k b h s t := by
  let D := dot_S2x1024x8x64_S2x1024x8x64_S2x8x1024x1024_3_3_1_1_02_02
  unfold scores
  rw [mulf_apply, broadcastInDim_scalar_apply]
  refine congrArg₂ (· * ·) ?_ eighth_f32
  simp only [Host.dotGeneral]
  rw [Ideal.dotGeneral_apply, ← Equiv.sum_comp (contrEquiv1 D 64 rfl rfl).symm]
  refine Finset.sum_congr rfl fun d _ => ?_
  have e := contrEquiv1_symm_val D 64 rfl rfl d
  rw [extf_apply, extf_apply]
  congr 2 <;> (funext a; apply Fin.ext; match a with | ⟨0, _⟩ => rfl | ⟨1, _⟩ => rfl | ⟨2, _⟩ => rfl | ⟨3, _⟩ => exact e)

theorem along_apply (x : FVec Ideal S2x8x1024 .f32) (b : Fin 2) (h : Fin 8) (s t : Fin 1024) :
    along x (ix4 b h s t) = x (ix3 b h s) := by
  unfold along
  rw [broadcastInDim_apply _ _ _ (ix4 b h s t) (ix4 b h s (0 : Fin 1)) (fun a => by
      match a with | ⟨0, _⟩ => rfl | ⟨1, _⟩ => rfl | ⟨2, _⟩ => rfl | ⟨3, _⟩ => rfl),
    broadcastInDim_apply _ _ _ (ix4 b h s (0 : Fin 1)) (ix3 b h s) (fun a => by
      match a with | ⟨0, _⟩ => rfl | ⟨1, _⟩ => rfl | ⟨2, _⟩ => rfl)]

theorem keysReduce : S2x8x1024x1024.Reduces [3] S2x8x1024 := by decide
theorem lift_eq (b : Fin 2) (h : Fin 8) (s : Fin 1024) (t : Fin 1024) : keysReduce.lift (ix3 b h s) t = ix4 b h s t := by
  funext a; apply Fin.ext
  match a with | ⟨0, _⟩ => rfl | ⟨1, _⟩ => rfl | ⟨2, _⟩ => rfl | ⟨3, _⟩ => rfl

/-- The greatest score of a query. -/
def top (x : S2x8x1024x1024.Idx → EReal) (b : Fin 2) (h : Fin 8) (s : Fin 1024) : EReal :=
  (Finset.univ : Finset (Fin 1024)).fold max ⊥ fun t => x (ix4 b h s t)

theorem expd_apply (x : FVec Ideal S2x8x1024x1024 .f32) (b : Fin 2) (h : Fin 8) (s t : Fin 1024) :
    expd x (ix4 b h s t) = Ideal.exp (x (ix4 b h s t) - top x b h s) := by
  refine congrArg Ideal.exp (congrArg (x (ix4 b h s t) - ·) ?_)
  rw [along_apply, Host.reduce_eq_fold_single _ _ _ _ keysReduce]
  unfold top
  refine congrArg₂ (fun i f => (Finset.univ : Finset (Fin 1024)).fold max i f) minf_f32 (funext fun t => ?_)
  exact congrArg x (lift_eq b h s t)

theorem weights_apply (e : FVec Ideal S2x8x1024x1024 .f32) (b : Fin 2) (h : Fin 8) (s t : Fin 1024) :
    weights e (ix4 b h s t) = Ideal.div (e (ix4 b h s t)) (∑ t' : Fin 1024, e (ix4 b h s t')) := by
  refine congrArg (Ideal.div (e (ix4 b h s t))) ?_
  rw [along_apply, hostReduceAdd_apply, Ideal.hostReduceAdd_single _ keysReduce]
  rw [show (constant S_ .f32 0x00000000#32 : FVec Ideal S_ .f32) (Shape.Idx.first h_S_) = 0 from Ideal.ofBits_zero_f32, zero_add]
  exact Finset.sum_congr rfl fun t' _ => congrArg e (lift_eq b h s t')

/-- The row of the result of a head of a batch entry. -/
def row (b : Fin 2) (h : Fin 8) : Fin 16 := ⟨8 * b.val + h.val, by omega⟩

theorem mixed_apply (v : FVec Ideal S2x1024x8x64 .bf16) (p : FVec Ideal S2x8x1024x1024 .f32) (b : Fin 2) (h : Fin 8) (d : Fin 64) (s : Fin 1024) :
    mixed v p (ix3 (row b h) d s) = ∑ t : Fin 1024, v (ix4 b t h d) * p (ix4 b h s t) := by
  let D := dot_S2x1024x8x64_S2x8x1024x1024_S2x8x64x1024_1_3_3_2_02_01
  unfold mixed
  rw [shapeCast_apply _ _ (ix3 (row b h) d s) (ix4 b h d s) (by
    rw [Shape.rowMajor_val_three, Shape.rowMajor_val_four]
    show ((b.val * 8 + h.val) * 64 + d.val) * 1024 + s.val = ((8 * b.val + h.val) * 64 + d.val) * 1024 + s.val
    omega)]
  rw [transpose_apply _ _ _ (ix4 b h d s) (ix4 b s h d) (fun a => by
    match a with | ⟨0, _⟩ => rfl | ⟨1, _⟩ => rfl | ⟨2, _⟩ => rfl | ⟨3, _⟩ => rfl), truncf_apply,
    transpose_apply _ _ _ (ix4 b s h d) (ix4 b h d s) (fun a => by
    match a with | ⟨0, _⟩ => rfl | ⟨1, _⟩ => rfl | ⟨2, _⟩ => rfl | ⟨3, _⟩ => rfl)]
  simp only [Host.dotGeneral]
  rw [Ideal.dotGeneral_apply, ← Equiv.sum_comp (contrEquiv1 D 1024 rfl rfl).symm]
  refine Finset.sum_congr rfl fun t _ => ?_
  have e := contrEquiv1_symm_val D 1024 rfl rfl t
  rw [extf_apply]
  congr 2
  · funext a; apply Fin.ext; match a with | ⟨0, _⟩ => rfl | ⟨1, _⟩ => exact e | ⟨2, _⟩ => rfl | ⟨3, _⟩ => rfl
  · funext a; apply Fin.ext; match a with | ⟨0, _⟩ => rfl | ⟨1, _⟩ => rfl | ⟨2, _⟩ => rfl | ⟨3, _⟩ => exact e

/-- Where the scores of a query are reals, the reference's result is the plain quotient of sums. -/
theorem refOut_apply (q k v : FVec Ideal S2x1024x8x64 .bf16) (b : Fin 2) (h : Fin 8) (d : Fin 64) (s : Fin 1024)
    (x : Fin 1024 → ℝ) (hx : ∀ t, score q k b h s t = (x t : EReal)) :
    refOut q k v (ix3 (row b h) d s)
      = Ideal.div (∑ t : Fin 1024, v (ix4 b t h d) * Ideal.exp (score q k b h s t)) (∑ t : Fin 1024, Ideal.exp (score q k b h s t)) := by
  obtain ⟨M, hM⟩ := max_real (Finset.univ : Finset (Fin 1024)) ⟨0, Finset.mem_univ _⟩ x
  have ht : top (scores q k) b h s = (M : EReal) := by
    unfold top; rw [← hM]; exact congrArg (fun f => Finset.fold max ⊥ f Finset.univ) (funext fun t => (scores_apply q k b h s t).trans (hx t))
  unfold refOut
  rw [mixed_apply]
  simp only [weights_apply, expd_apply, ht, scores_apply, hx]
  exact softmax_eq x M fun t => v (ix4 b t h d)

end Cert.Attn.Ref

end
-- ==== Proof.Finite.lean ====
/-
# The precondition, read back

Where it holds of a device's blocks, every element of the queries and of the keys is a real number.
-/
module

public import proofs.«01_k».proof.Pre_finite_KernelIdeal
public import proofs.«01_k».proof.Proof.Gen.Pre_finite_KernelIdeal
public import Idealize.ShloMosaic.PureOps.Ideal.Laws
public import Idealize.ShloMosaic.Lib.ReduceAll
public import Idealize.ShloMosaic.Lib.Pipeline.Value

@[expose] public section

noncomputable section

namespace Cert.Attn.Finite

open Cert.Pre_finite_KernelIdeal Cert.Pre_finite_KernelIdeal.Gen
open Idealize.ShloMosaic

/-- The f32 pattern of infinity. -/
theorem inf_f32 : Ideal.ofBits .f32 0x7F800000#32 = ⊤ := by simp [Ideal.ofBits, Ideal.ieee]

instance : Subsingleton S_.Idx := ⟨fun _ _ => funext fun a => a.elim0⟩

/-- A number whose absolute value is below infinity is a real. -/
theorem real_of_abs_lt (x : EReal) (h : max x (-x) < ⊤) : ∃ r : ℝ, x = (r : EReal) := by
  induction x with
  | bot => simp at h
  | top => simp at h
  | coe r => exact ⟨r, rfl⟩

theorem real_of_all (x : FVec Ideal S2x512x8x64 .bf16)
    (e : Host.reduce IntOp.andi (cmpf .olt (Host.absf (extf .f32 x bitsLt_bf16_f32)) (broadcastInDim S2x512x8x64 ![] bcast_S_S2x512x8x64 (constant S_ .f32 0x7F800000#32)))
      (constantI S_ 1 1#1) Facts.reducesTo_S2x512x8x64_S_d0_1_2_3 Facts.h_S_ (fun a => a.elim0) = 1#1) (i : S2x512x8x64.Idx) : ∃ r : ℝ, x i = (r : EReal) := by
  have h := Host.reduce_andi_all _ _ _ _ _ e i
  refine real_of_abs_lt (x i) ?_
  have h' : BitVec.ofBool (decide (max (x i) (-(x i)) < Ideal.ofBits .f32 0x7F800000#32)) = 1#1 := h
  rw [inf_f32] at h'
  by_contra hn
  rw [decide_eq_false hn] at h'
  exact absurd h' (by decide)

theorem reals (q k v : FVec Ideal S2x512x8x64 .bf16) (h : fn (F := Ideal) q k v = fun _ => 1#1) :
    (∀ i, ∃ r : ℝ, q i = (r : EReal)) ∧ ∀ i, ∃ r : ℝ, k i = (r : EReal) := by
  have h1 := IntOp.andi_eq_one.1 (congrFun h (fun a => a.elim0))
  exact ⟨real_of_all q h1.1, real_of_all k h1.2⟩

end Cert.Attn.Finite

end
-- ==== Proof.Equal.lean ====
/-
# The kernel's result is the reference's

Each device holds half of the keys and computes the sums over them and over its partner's half: together, over all keys. The
scale, applied to the queries before the scores or to the scores after, gives the same scores; they are reals, by the
precondition, so the reference's subtraction of a maximum cancels.
-/
module

public import proofs.«01_k».proof.Defs
public import proofs.«01_k».proof.Proof.KernelValue
public import proofs.«01_k».proof.Proof.RefValue
public import proofs.«01_k».proof.Proof.Finite

@[expose] public section

noncomputable section

namespace Cert.Attn

open Cert.KernelIdeal
open Idealize.ShloMosaic Idealize.ShloMosaic.ValueIdx
open Idealize.ShloMosaic.TcCoe
open scoped BigOperators

/-! ## The blocks -/

/-- Position `s` of half `y` of the sequence. -/
def pos (y : Fin 2) (s : Fin 512) : Fin 1024 := ⟨y.val * 512 + s.val, by omega⟩
/-- The half a device holds. -/
def yOf (c : Dev nD) : Fin 2 := ⟨c.val % 2, by omega⟩

/-- The whole arrays the devices' arguments are blocks of. -/
abbrev Whole : Type := (⟨4, ![2, 1024, 8, 64]⟩ : Shape).Idx → EReal

/-- The block of such an array that device `c` holds. -/
abbrev blockOf (c : Dev nD) (X : Whole) : S2x512x8x64.Idx → EReal :=
  Layout.blockN ⟨4, ![2, 512, 8, 64]⟩ ⟨4, ![2, 1024, 8, 64]⟩ (Layout.meshBlock [2, 2] ![[], [1], [], []] c) X

theorem block_apply (c : Dev nD) (X : Whole) (b : Fin 2) (s : Fin 512) (h : Fin 8) (d : Fin 64) :
    blockOf c X (ix4 b s h d)
      = X (ix4 b (pos (yOf c) s) h d) := by
  unfold blockOf
  rw [Layout.blockN_apply]
  refine congrArg X (funext fun a => Fin.ext ?_)
  have hy : Layout.meshLin [2, 2] c.val [1] = c.val % 2 := by revert c; decide
  match a with
  | ⟨0, _⟩ => show 0 * 2 + b.val = b.val; omega
  | ⟨1, _⟩ => show Layout.meshLin [2, 2] c.val [1] * 512 + s.val = c.val % 2 * 512 + s.val; rw [hy]
  | ⟨2, _⟩ => show 0 * 8 + h.val = h.val; omega
  | ⟨3, _⟩ => show 0 * 64 + d.val = d.val; omega

/-- A sum over the sequence is the sum over a half and over the other. -/
theorem sum_halves (f : Fin 1024 → EReal) (y z : Fin 2) (hyz : y ≠ z) : ∑ t, f t = ∑ t, f (pos y t) + ∑ t, f (pos z t) := by
  have h : ∑ t, f t = ∑ t, f (pos 0 t) + ∑ t, f (pos 1 t) := by
    refine (Fin.sum_univ_add (a := 512) (b := 512) f).trans (congrArg₂ (· + ·) ?_ ?_)
    · exact Finset.sum_congr rfl fun t _ => congrArg f (Fin.ext (show t.val = 0 * 512 + t.val by omega))
    · exact Finset.sum_congr rfl fun t _ => congrArg f (Fin.ext (show 512 + t.val = 1 * 512 + t.val by omega))
  have hc : (y = 0 ∧ z = 1) ∨ (y = 1 ∧ z = 0) := by clear * - hyz; revert y z; decide
  rcases hc with ⟨rfl, rfl⟩ | ⟨rfl, rfl⟩
  · exact h
  · exact h.trans (add_comm _ _)

variable (m : (ℓ : Loc nD τ sig) → Buf (Elt Ideal) ℓ)

/-! ## One element -/

section Element

variable (Q K V : Whole)
  (hQ : ∀ c, argQ m c = blockOf c Q)
  (hK : ∀ c, argK m c = blockOf c K)
  (hV : ∀ c, argV m c = blockOf c V)

include hQ hK in
/-- The weight a device computes of one of the keys of a device with the same batch entry is the exponential of the
    reference's score. -/
theorem weight_eq (c e : Dev nD) (hx : xOf e = xOf c) (j : Fin 8) (t s : Fin 512) :
    expKQ (headOf (kVal m e) j) (headOf (qVal m c) j) t s = Ideal.exp (Ref.score Q K (xOf c) j (pos (yOf c) s) (pos (yOf e) t)) := by
  unfold expKQ Ref.score
  rw [sum_mul_real _ _ (by norm_num)]
  refine congrArg Ideal.exp (Finset.sum_congr rfl fun d _ => ?_)
  rw [kHead_apply, qHead_apply, hQ, hK, block_apply, block_apply, hx, mul_comm (Q _) (K _), mul_assoc]

include hV in
theorem value_eq (c e : Dev nD) (hx : xOf e = xOf c) (j : Fin 8) (d : Fin 64) (t : Fin 512) :
    headOf (vVal m e) j (ix3 0 d t) = V (ix4 (xOf c) (pos (yOf e) t) j d) := by
  rw [vHead_apply, hV, block_apply, hx]

theorem xOf_ypeer (c : Dev nD) : xOf (ypeer c) = xOf c := by revert c; decide
theorem yOf_ypeer (c : Dev nD) : yOf c ≠ yOf (ypeer c) := by revert c; decide

include hQ hK hV in
/-- What a device computes of a head is the quotient of the sums over all keys. -/
theorem outRow_eq (c : Dev nD) (j : Fin 8) (d : Fin 64) (s : Fin 512) :
    outRow m c j (ix3 0 d s)
      = Ideal.div (∑ t : Fin 1024, V (ix4 (xOf c) t j d) * Ideal.exp (Ref.score Q K (xOf c) j (pos (yOf c) s) t))
          (∑ t : Fin 1024, Ideal.exp (Ref.score Q K (xOf c) j (pos (yOf c) s) t)) := by
  rw [outRow_apply, sum_halves _ (yOf c) (yOf (ypeer c)) (yOf_ypeer c), sum_halves _ (yOf c) (yOf (ypeer c)) (yOf_ypeer c)]
  simp only [weight_eq m Q K hQ hK c c rfl, weight_eq m Q K hQ hK c (ypeer c) (xOf_ypeer c), value_eq m V hV c c rfl, value_eq m V hV c (ypeer c) (xOf_ypeer c)]

/-- Where the elements of the queries and of the keys are reals, so are the scores. -/
theorem score_real (rQ : ∀ i, ∃ r : ℝ, Q i = (r : EReal)) (rK : ∀ i, ∃ r : ℝ, K i = (r : EReal)) (b : Fin 2) (h : Fin 8) (s t : Fin 1024) :
    ∃ r : ℝ, Ref.score Q K b h s t = (r : EReal) := by
  choose q hq using rQ
  choose k hk using rK
  refine ⟨(∑ d : Fin 64, q (ix4 b s h d) * k (ix4 b t h d)) * (1 / 8), ?_⟩
  unfold Ref.score
  rw [EReal.coe_mul, coe_sum]
  refine congrArg (· * _) (Finset.sum_congr rfl fun d _ => ?_)
  rw [hq, hk, EReal.coe_mul]

/-- If all blocks of an array are real, so is the array. -/
theorem real_of_blocks (X : Whole) (A : Dev nD → S2x512x8x64.Idx → EReal)
    (hX : ∀ c, A c = blockOf c X)
    (hA : ∀ c i, ∃ r : ℝ, A c i = (r : EReal)) (i : (⟨4, ![2, 1024, 8, 64]⟩ : Shape).Idx) : ∃ r : ℝ, X i = (r : EReal) := by
  have h1 : (i 1).val < 1024 := (i 1).isLt
  let c : Dev nD := ⟨(i 1).val / 512, by show _ < 4; omega⟩
  obtain ⟨r, hr⟩ := hA c (ix4 (i 0) (⟨(i 1).val % 512, by omega⟩ : Fin 512) (i 2) (i 3))
  refine ⟨r, ?_⟩
  rw [← hr, hX c]
  refine Eq.trans (congrArg X ?_) (block_apply c X (i 0) (⟨(i 1).val % 512, by omega⟩ : Fin 512) (i 2) (i 3)).symm
  funext a
  match a with
  | ⟨0, _⟩ => rfl
  | ⟨1, _⟩ => exact Fin.ext (show (i 1).val = (i 1).val / 512 % 2 * 512 + (i 1).val % 512 by omega)
  | ⟨2, _⟩ => rfl
  | ⟨3, _⟩ => rfl

include hQ hK hV in
/-- The result on a device is its block of the reference's. -/
theorem outv_eq (rQ : ∀ c i, ∃ r : ℝ, argQ m c i = (r : EReal)) (rK : ∀ c i, ∃ r : ℝ, argK m c i = (r : EReal)) (c : Dev nD) :
    outv m c = Layout.blockN ⟨3, ![16, 64, 512]⟩ ⟨3, ![16, 64, 1024]⟩ (Layout.meshBlock [2, 2] ![[], [], [1]] c) (Ref.refOut (F := Ideal) Q K V) := by
  funext i
  have h0 : (i 0).val < 16 := (i 0).isLt
  let e := rowDev c (i 0)
  let j := rowHead (i 0)
  have hc : c.val < 4 := c.isLt
  have hy : yOf e = yOf c := Fin.ext (show (2 * ((i 0).val / 8) + c.val % 2) % 2 = c.val % 2 by omega)
  have hx : (xOf e).val = (i 0).val / 8 := show (2 * ((i 0).val / 8) + c.val % 2) / 2 = _ by omega
  have hL : inRow i = ix3 0 (i 1) (i 2) := by
    funext a; match a with | ⟨0, _⟩ => rfl | ⟨1, _⟩ => rfl | ⟨2, _⟩ => rfl
  have hm : Layout.meshLin [2, 2] c.val [1] = c.val % 2 := by clear * -; revert c; decide
  rw [Layout.blockN_apply]
  have hR : Layout.TilesN.idx (S := ⟨3, ![16, 64, 512]⟩) (T := ⟨3, ![16, 64, 1024]⟩) (by decide) (Layout.meshBlock [2, 2] ![[], [], [1]] c) i
      = ix3 (Ref.row (xOf e) j) (i 1) (pos (yOf e) (i 2)) := by
    rw [hy]
    funext a; apply Fin.ext
    match a with
    | ⟨0, _⟩ => show 0 * 16 + (i 0).val = 8 * (xOf e).val + (i 0).val % 8; rw [hx]; omega
    | ⟨1, _⟩ => show 0 * 64 + (i 1).val = (i 1).val; omega
    | ⟨2, _⟩ => show Layout.meshLin [2, 2] c.val [1] * 512 + (i 2).val = c.val % 2 * 512 + (i 2).val; rw [hm]
  choose x hx' using score_real Q K (real_of_blocks Q _ hQ rQ) (real_of_blocks K _ hK rK) (xOf e) j (pos (yOf e) (i 2))
  rw [hR]
  refine Eq.trans ?_ (Ref.refOut_apply Q K V (xOf e) j (i 1) (pos (yOf e) (i 2)) x hx').symm
  show outRow m e j (inRow i) = _
  rw [hL]
  exact outRow_eq m Q K V hQ hK hV e j (i 1) (i 2)

end Element

/-! ## The claim -/

theorem equal : Cert.algebraic_KernelIdeal_ReferenceIdeal_pre_finite_KernelIdeal := fun m g m' g' hpre hargs => by
  have hr := fun c : Dev nD => Finite.reals _ _ _ (hpre c)
  refine ⟨_, (θ_run Cert.KernelIdeal.defs _ _).mono (fun _ h c => ⟨?_, ?_, ?_, ?_⟩) (run_main m g),
    (θ_run Cert.ReferenceIdeal.defs _ _).mono (fun _ h => h 0) (Ref.run_main (F := Ideal) m' g')⟩
  · exact ((h.1 c (3 : Fin 4)).trans (finalA_out m g c)).trans
      (outv_eq m _ _ _ (fun c => (hargs c).1) (fun c => (hargs c).2.1) (fun c => (hargs c).2.2) (fun c => (hr c).1) (fun c => (hr c).2) c)
  · exact (h.1 c (0 : Fin 4)).trans (finalA_in m g c (0 : Fin 4) rfl)
  · exact (h.1 c (1 : Fin 4)).trans (finalA_in m g c (1 : Fin 4) rfl)
  · exact (h.1 c (2 : Fin 4)).trans (finalA_in m g c (2 : Fin 4) rfl)

end Cert.Attn

end
-- ==== Proof.lean ====
/-
The assembly: the facts of the three programs, then the claims in their order.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_KernelIdeal
public import proofs.«01_k».proof.Proof.Gen.Pre_finite_ReferenceIdeal
public import proofs.«01_k».proof.Proof.Frames
public import proofs.«01_k».proof.Proof.Equal

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  Cert.Attn.frame_kernel, Cert.Attn.frame_ideal, Cert.Attn.frame_ideal_pre, Cert.Attn.frame_ref, Cert.Attn.frame_ref_pre, trivial,
  Cert.Attn.equal⟩

end Cert.Proof

end
